-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x4096 : Shape := ⟨3, ![8, 256, 4096]⟩
abbrev S4096x5632 : Shape := ⟨2, ![4096, 5632]⟩
abbrev S5632 : Shape := ⟨1, ![5632]⟩
abbrev S2816x4096 : Shape := ⟨2, ![2816, 4096]⟩
abbrev S4096 : Shape := ⟨1, ![4096]⟩
abbrev S2048x4096 : Shape := ⟨2, ![2048, 4096]⟩
abbrev S1x5632 : Shape := ⟨2, ![1, 5632]⟩
abbrev S1x4096 : Shape := ⟨2, ![1, 4096]⟩
abbrev S2048x1 : Shape := ⟨2, ![2048, 1]⟩
abbrev S2048x2816 : Shape := ⟨2, ![2048, 2816]⟩
abbrev S2048x22 : Shape := ⟨2, ![2048, 22]⟩
abbrev S256x4096 : Shape := ⟨2, ![256, 4096]⟩
abbrev S256x1 : Shape := ⟨2, ![256, 1]⟩
abbrev S256x2816 : Shape := ⟨2, ![256, 2816]⟩
abbrev S256x22 : Shape := ⟨2, ![256, 22]⟩
abbrev S256 : Shape := ⟨1, ![256]⟩
abbrev S256x256 : Shape := ⟨2, ![256, 256]⟩
abbrev S4096x256 : Shape := ⟨2, ![4096, 256]⟩
abbrev S1x256 : Shape := ⟨2, ![1, 256]⟩
abbrev S256x128 : Shape := ⟨2, ![256, 128]⟩
abbrev S2816x256 : Shape := ⟨2, ![2816, 256]⟩

abbrev nBuf : Space → Nat
  | .hbm => 13
  | .vmem => 17
  | .smem => 0
  | _ => 0

abbrev bufTy : (tb : Table) → Fin (tcTables nBuf tb) → BufTy
  | .hbm, ⟨0, _⟩ => ⟨S8x256x4096, .bf16⟩
  | .hbm, ⟨1, _⟩ => ⟨S4096x5632, .fp8e4m3⟩
  | .hbm, ⟨2, _⟩ => ⟨S5632, .f32⟩
  | .hbm, ⟨3, _⟩ => ⟨S2816x4096, .fp8e4m3⟩
  | .hbm, ⟨4, _⟩ => ⟨S4096, .f32⟩
  | .hbm, ⟨5, _⟩ => ⟨S2048x4096, .bf16⟩
  | .hbm, ⟨6, _⟩ => ⟨S1x5632, .f32⟩
  | .hbm, ⟨7, _⟩ => ⟨S1x4096, .f32⟩
  | .hbm, ⟨8, _⟩ => ⟨S2048x4096, .bf16⟩
  | .hbm, ⟨9, _⟩ => ⟨S2048x4096, .fp8e4m3⟩
  | .hbm, ⟨10, _⟩ => ⟨S2048x1, .f32⟩
  | .hbm, ⟨11, _⟩ => ⟨S2048x2816, .fp8e4m3⟩
  | .hbm, ⟨12, _⟩ => ⟨S2048x22, .f32⟩
  | .local _ .vmem, ⟨0, _⟩ => ⟨S256x4096, .bf16⟩
  | .local _ .vmem, ⟨1, _⟩ => ⟨S256x4096, .bf16⟩
  | .local _ .vmem, ⟨2, _⟩ => ⟨S4096x5632, .fp8e4m3⟩
  | .local _ .vmem, ⟨3, _⟩ => ⟨S1x5632, .f32⟩
  | .local _ .vmem, ⟨4, _⟩ => ⟨S2816x4096, .fp8e4m3⟩
  | .local _ .vmem, ⟨5, _⟩ => ⟨S1x4096, .f32⟩
  | .local _ .vmem, ⟨6, _⟩ => ⟨S256x4096, .bf16⟩
  | .local _ .vmem, ⟨7, _⟩ => ⟨S256x4096, .bf16⟩
  | .local _ .vmem, ⟨8, _⟩ => ⟨S256x4096, .fp8e4m3⟩
  | .local _ .vmem, ⟨9, _⟩ => ⟨S256x4096, .fp8e4m3⟩
  | .local _ .vmem, ⟨10, _⟩ => ⟨S256x1, .f32⟩
  | .local _ .vmem, ⟨11, _⟩ => ⟨S256x1, .f32⟩
  | .local _ .vmem, ⟨12, _⟩ => ⟨S256x2816, .fp8e4m3⟩
  | .local _ .vmem, ⟨13, _⟩ => ⟨S256x2816, .fp8e4m3⟩
  | .local _ .vmem, ⟨14, _⟩ => ⟨S256x22, .f32⟩
  | .local _ .vmem, ⟨15, _⟩ => ⟨S256x22, .f32⟩
  | .local _ .vmem, ⟨16, _⟩ => ⟨S256x2816, .bf16⟩
  | _, _ => ⟨S8x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x22 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x256x4096 : Shape := ⟨3, ![8, 256, 4096]⟩
abbrev S4096x5632 : Shape := ⟨2, ![4096, 5632]⟩
abbrev S5632 : Shape := ⟨1, ![5632]⟩
abbrev S2816x4096 : Shape := ⟨2, ![2816, 4096]⟩
abbrev S4096 : Shape := ⟨1, ![4096]⟩
abbrev S2048x4096 : Shape := ⟨2, ![2048, 4096]⟩
abbrev S1x5632 : Shape := ⟨2, ![1, 5632]⟩
abbrev S1x4096 : Shape := ⟨2, ![1, 4096]⟩
abbrev S2048x1 : Shape := ⟨2, ![2048, 1]⟩
abbrev S2048x2816 : Shape := ⟨2, ![2048, 2816]⟩
abbrev S2048x22 : Shape := ⟨2, ![2048, 22]⟩
abbrev S2048x1x4096 : Shape := ⟨3, ![2048, 1, 4096]⟩
abbrev S2048x1x1 : Shape := ⟨3, ![2048, 1, 1]⟩
abbrev S2048x5632 : Shape := ⟨2, ![2048, 5632]⟩
abbrev S2048x22x128 : Shape := ⟨3, ![2048, 22, 128]⟩
abbrev S2048x22x1 : Shape := ⟨3, ![2048, 22, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x256x4096, .bf16⟩
  | .hbm, ⟨1, _⟩ => ⟨S4096x5632, .fp8e4m3⟩
  | .hbm, ⟨2, _⟩ => ⟨S5632, .f32⟩
  | .hbm, ⟨3, _⟩ => ⟨S2816x4096, .fp8e4m3⟩
  | .hbm, ⟨4, _⟩ => ⟨S4096, .f32⟩
  | .hbm, ⟨5, _⟩ => ⟨S2048x4096, .bf16⟩
  | .hbm, ⟨6, _⟩ => ⟨S1x5632, .f32⟩
  | .hbm, ⟨7, _⟩ => ⟨S1x4096, .f32⟩
  | .hbm, ⟨8, _⟩ => ⟨S2048x4096, .bf16⟩
  | .hbm, ⟨9, _⟩ => ⟨S2048x4096, .fp8e4m3⟩
  | .hbm, ⟨10, _⟩ => ⟨S2048x1, .f32⟩
  | .hbm, ⟨11, _⟩ => ⟨S2048x2816, .fp8e4m3⟩
  | .hbm, ⟨12, _⟩ => ⟨S2048x22, .f32⟩
  | .local _ .vmem, ⟨0, _⟩ => ⟨S2048x4096, .bf16⟩
  | .local _ .vmem, ⟨1, _⟩ => ⟨S4096x5632, .fp8e4m3⟩
  | .local _ .vmem, ⟨2, _⟩ => ⟨S1x5632, .f32⟩
  | .local _ .vmem, ⟨3, _⟩ => ⟨S2816x4096, .fp8e4m3⟩
  | .local _ .vmem, ⟨4, _⟩ => ⟨S1x4096, .f32⟩
  | .local _ .vmem, ⟨5, _⟩ => ⟨S2048x4096, .bf16⟩
  | .local _ .vmem, ⟨6, _⟩ => ⟨S2048x4096, .fp8e4m3⟩
  | .local _ .vmem, ⟨7, _⟩ => ⟨S2048x1, .f32⟩
  | .local _ .vmem, ⟨8, _⟩ => ⟨S2048x2816, .fp8e4m3⟩
  | .local _ .vmem, ⟨9, _⟩ => ⟨S2048x22, .f32⟩
  | _, _ => ⟨S8x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2816 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x22 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Spec.lean ====
module

public import Idealize.ShloMosaic.PureOps.Ideal.Laws

@[expose] public section
noncomputable section

/-!
# The mathematics of one row

Everything the two programs compute is computed row by row: a row of `x` is quantised with one scale, multiplied by the
gate and up weights, passed through the gated activation, quantised again in groups of 128 columns, and multiplied by the
down weights. This file states that row over the extended reals. Neither program is mentioned.
-/

namespace Cert.Mlp

open Idealize.ShloMosaic

/-- The largest finite single-precision number. -/
def fmax : EReal := Ideal.ofBits .f32 0x7F7FFFFF#32
/-- The single-precision number nearest to `1 / 448`. -/
def inv448 : EReal := Ideal.ofBits .f32 0x3B124925#32
/-- The smallest normal single-precision number, `2 ^ -126`. -/
def tiny : EReal := Ideal.ofBits .f32 0x00800000#32
/-- `448`, the largest fp8 code. -/
def top : EReal := Ideal.ofBits .f32 0x43E00000#32
/-- `-448`, the smallest fp8 code. -/
def bot : EReal := Ideal.ofBits .f32 0xC3E00000#32

/-- The largest magnitude of a row, started at minus infinity. -/
def amax {n : ℕ} (f : Fin n → EReal) : EReal :=
  Finset.univ.fold max (Ideal.ofBits .f32 0xFF800000#32) fun k => max (f k) (-f k)

/-- The largest magnitude, saturated at the largest finite number, over 448. -/
def unit (a : EReal) : EReal := min a fmax * inv448

/-- The exponent of the scale: one more than the whole part of the binary logarithm, and zero below the normal range. -/
def expo (a : EReal) : EReal :=
  if unit a < tiny then 0
  else Ideal.liftRound Int.floor (Ideal.div (Ideal.log (unit a)) (Ideal.log (Ideal.ofBits .f32 0x40000000#32))) + 1

/-- The scale of a group whose largest magnitude is `a`. -/
def scale (a : EReal) : EReal := Ideal.exp2 (expo a)
/-- The factor that takes a value to its code. -/
def unscale (a : EReal) : EReal := Ideal.exp2 (0 - expo a)
/-- One value's code, in a group whose largest magnitude is `a`: scaled, then clipped. -/
def code (a h : EReal) : EReal := min top (max bot (h * unscale a))

section Row
variable (X : Fin 4096 → EReal) (W : Fin 4096 → Fin 5632 → EReal) (S : Fin 5632 → EReal)
  (D : Fin 2816 → Fin 4096 → EReal) (E : Fin 4096 → EReal)

/-- The code of column `k` of the row. -/
def xcode (k : Fin 4096) : EReal := code (amax X) (X k)

/-- Column `j` of the gate and up product, with both scales. -/
def gateUp (j : Fin 5632) : EReal := (∑ k, xcode X k * W k j) * scale (amax X) * S j

/-- The gated activation of column `j`. -/
def act (j : Fin 2816) : EReal :=
  gateUp X W S ⟨j, by omega⟩ * Ideal.logistic (gateUp X W S ⟨j, by omega⟩) * gateUp X W S ⟨2816 + j, by omega⟩

/-- The largest magnitude of group `g` of the activation. -/
def hmax (g : Fin 22) : EReal := amax fun l : Fin 128 => act X W S ⟨128 * g + l, by omega⟩

/-- The group of a column. -/
def grp (j : Fin 2816) : Fin 22 := ⟨j / 128, by omega⟩

/-- The code of column `j` of the activation. -/
def hcode (j : Fin 2816) : EReal := code (hmax X W S (grp j)) (act X W S j)

/-- The scale of group `g` of the activation. -/
def hscale (g : Fin 22) : EReal := scale (hmax X W S g)

/-- Column `j` of the activation, back from its code. -/
def hval (j : Fin 2816) : EReal := hcode X W S j * hscale X W S (grp j)

/-- Column `n` of the result. -/
def out (n : Fin 4096) : EReal := (∑ j, hval X W S j * D j n) * E n

end Row

end Cert.Mlp
-- ==== Proof.Scale.lean ====
module

public import proofs.«01_k».proof.Proof.Spec

@[expose] public section
noncomputable section

/-!
# The scale by comparison with the powers of two

The kernel finds the exponent of a number by comparing it with every power of two a single-precision exponent field can
name, keeping the field of the largest one not above it. This file shows that the scale so found is the specification's,
which takes the whole part of a binary logarithm.
-/

namespace Cert.Mlp

open Idealize.ShloMosaic

/-- The word whose exponent field is `k`, held at 246. -/
def fieldWord (k : Fin 256) : BitVec 32 := IntOp.muli (IntOp.minsi (BitVec.ofNat 32 k) 246#32) 8388608#32

/-- The exponent field of the largest power of two that is not above `|v|`. -/
def fieldOf (v : EReal) : BitVec 32 :=
  Finset.univ.fold IntOp.maxsi 2147483648#32 fun k : Fin 256 =>
    Scalar.select (Ideal.cmp .olt (max v (-v)) (Ideal.ofBits .f32 (fieldWord k))) 0#32 (fieldWord k)

theorem fieldWord_eq (k : Fin 256) : fieldWord k = BitVec.ofNat 32 (min (k : ℕ) 246 * 8388608) := by
  revert k; decide +kernel

theorem fieldWord_toInt (k : Fin 256) : (fieldWord k).toInt = (min (k : ℕ) 246 * 8388608 : ℕ) := by
  revert k; decide +kernel

/-- A positive word with no trailing bits is a power of two. -/
theorem ieee_field {e m w : ℕ} (b : BitVec w) (j : ℕ) (hng : (b.extractLsb' (e + m) 1 == 1#1) = false)
    (hex : (b.extractLsb' m e).toNat = j) (hfr : (b.extractLsb' 0 m).toNat = 0) (h1 : j ≠ 2 ^ e - 1) (h0 : j ≠ 0) :
    Ideal.ieee e m b = (((2 : ℝ) ^ ((j : ℤ) - (2 ^ (e - 1) - 1)) : ℝ) : EReal) := by
  simp only [Ideal.ieee]
  rw [hex, hfr, hng, if_neg h1, if_neg h0]
  congr 1
  have h2 : (2 : ℝ) ≠ 0 := by norm_num
  have h3 : (((2 ^ m + 0 : ℕ) : ℝ)) = (2 : ℝ) ^ (m : ℤ) := by simp
  rw [h3, if_neg (by simp), one_mul, ← zpow_add₀ h2]
  congr 1
  ring

/-- The same, of a word known as a number. -/
theorem ofBits_of_toNat (b : BitVec 32) (j : ℕ) (hb : b.toNat = j * 8388608) (h1 : 1 ≤ j) (h2 : j ≤ 254) :
    Ideal.ofBits .f32 b = (((2 : ℝ) ^ ((j : ℤ) - 127) : ℝ) : EReal) := by
  have hex : (b.extractLsb' 23 8).toNat = j := by
    rw [BitVec.extractLsb'_toNat, Nat.shiftRight_eq_div_pow, hb]; omega
  have hfr : (b.extractLsb' 0 23).toNat = 0 := by
    rw [BitVec.extractLsb'_toNat, Nat.shiftRight_eq_div_pow, hb]; omega
  have hng : (b.extractLsb' (8 + 23) 1 == 1#1) = false := by
    have : (b.extractLsb' (8 + 23) 1).toNat = 0 := by
      rw [BitVec.extractLsb'_toNat, Nat.shiftRight_eq_div_pow, hb]; omega
    rw [beq_eq_false_iff_ne]
    intro h
    rw [h] at this
    exact absurd this (by decide)
  have h3 := ieee_field (e := 8) (m := 23) b j hng hex hfr (by omega) (by omega)
  have h4 : (j : ℤ) - (2 ^ (8 - 1) - 1) = (j : ℤ) - 127 := by norm_num
  rw [h4] at h3
  exact h3

/-- A word with exponent field `j` and nothing else is the power `2 ^ (j - 127)`. -/
theorem ofBits_field (j : ℕ) (h1 : 1 ≤ j) (h2 : j ≤ 254) :
    Ideal.ofBits .f32 (BitVec.ofNat 32 (j * 8388608)) = (((2 : ℝ) ^ ((j : ℤ) - 127) : ℝ) : EReal) :=
  ofBits_of_toNat _ j (by rw [BitVec.toNat_ofNat]; omega) h1 h2

theorem ofBits_field_zero : Ideal.ofBits .f32 (BitVec.ofNat 32 (0 * 8388608)) = 0 := by
  simp [Ideal.ofBits, Ideal.ieee]

/-- The signed maximum of words, read as integers. -/
theorem fold_maxsi_toInt {n : ℕ} (s : Finset (Fin n)) (b : BitVec 32) (w : Fin n → BitVec 32) :
    (s.fold IntOp.maxsi b w).toInt = s.fold max b.toInt fun k => (w k).toInt := by
  classical
  have hmax : ∀ x y : BitVec 32, (IntOp.maxsi x y).toInt = max x.toInt y.toInt := by
    intro x y
    simp only [IntOp.maxsi, BitVec.slt]
    split <;> rename_i h <;> simp at h <;> omega
  induction s using Finset.induction_on with
  | empty => simp
  | insert a s ha ih => rw [Finset.fold_insert ha, Finset.fold_insert ha, hmax, ih]

/-- The field found is `N` when `2 ^ (N - 127)` is not above `v` and every larger power is. -/
theorem fieldOf_eq (v : EReal) (hv : 0 ≤ v) (N : ℕ) (hN : N ≤ 246)
    (hlo : N = 0 ∨ (((2 : ℝ) ^ ((N : ℤ) - 127) : ℝ) : EReal) ≤ v)
    (hhi : ∀ j : ℕ, N < j → j ≤ 246 → v < (((2 : ℝ) ^ ((j : ℤ) - 127) : ℝ) : EReal)) :
    fieldOf v = BitVec.ofNat 32 (N * 8388608) := by
  have habs : max v (-v) = v := max_eq_left ((EReal.neg_le_neg_iff.mpr hv).trans (by simpa using hv))
  have hw : ∀ k : Fin 256, (Scalar.select (Ideal.cmp .olt v (Ideal.ofBits .f32 (fieldWord k))) 0#32 (fieldWord k)).toInt
      = if v < Ideal.ofBits .f32 (fieldWord k) then 0 else ((min (k : ℕ) 246 * 8388608 : ℕ) : ℤ) := by
    intro k
    simp only [Scalar.select, Ideal.cmp]
    by_cases h : v < Ideal.ofBits .f32 (fieldWord k) <;> simp [h, fieldWord_toInt]
  have hpow : ∀ k : Fin 256, 1 ≤ (k : ℕ) → Ideal.ofBits .f32 (fieldWord k)
      = (((2 : ℝ) ^ (((min (k : ℕ) 246 : ℕ) : ℤ) - 127) : ℝ) : EReal) := by
    intro k hk
    rw [fieldWord_eq]
    exact ofBits_field (min (k : ℕ) 246) (by omega) (by omega)
  have key : (fieldOf v).toInt = ((N * 8388608 : ℕ) : ℤ) := by
    unfold fieldOf
    rw [habs, fold_maxsi_toInt]
    simp only [hw]
    apply le_antisymm
    · rw [Finset.fold_max_le]
      refine ⟨(by decide : (2147483648#32).toInt ≤ 0).trans (Int.natCast_nonneg _), fun k _ => ?_⟩
      split
      · positivity
      · rename_i h
        by_cases hk : (k : ℕ) = 0
        · simp [hk]
        · rw [hpow k (by omega)] at h
          by_contra hc
          exact h (hhi _ (by push_cast at hc; omega) (by omega))
    · rw [Finset.le_fold_max]
      right
      refine ⟨⟨N, by omega⟩, Finset.mem_univ _, ?_⟩
      rcases Nat.eq_zero_or_pos N with h0 | h0
      · subst h0; split <;> simp
      · rw [hpow ⟨N, by omega⟩ h0]
        have hmin : min N 246 = N := by omega
        rcases hlo with h | h
        · omega
        · simp only [hmin]
          rw [if_neg (not_lt.mpr h)]
  apply BitVec.eq_of_toInt_eq
  rw [key, BitVec.toInt_ofNat']
  simp [Int.bmod]
  omega

theorem tiny_eq : tiny = (((2 : ℝ) ^ (-126 : ℤ) : ℝ) : EReal) := by
  have := ofBits_field 1 le_rfl (by norm_num)
  simpa [tiny] using this

theorem fmax_eq : fmax = (((16777215 : ℝ) * (2 : ℝ) ^ (104 : ℤ) : ℝ) : EReal) := by
  simp only [fmax, Ideal.ofBits, Ideal.ieee]
  rw [if_neg (by decide), if_neg (by decide), if_neg (by decide), show (BitVec.extractLsb' 23 8 0x7F7FFFFF#32).toNat = 254 from rfl]
  congr 1
  norm_num

theorem inv448_eq : inv448 = (((9586981 : ℝ) * (2 : ℝ) ^ (-32 : ℤ) : ℝ) : EReal) := by
  simp only [inv448, Ideal.ofBits, Ideal.ieee]
  rw [if_neg (by decide), if_neg (by decide), if_neg (by decide), show (BitVec.extractLsb' 23 8 0x3B124925#32).toNat = 118 from rfl]
  congr 1
  norm_num

theorem two_eq : Ideal.ofBits .f32 0x40000000#32 = ((2 : ℝ) : EReal) := by
  have := ofBits_field 128 (by norm_num) (by norm_num)
  simpa using this

theorem one_eq : Ideal.ofBits .f32 1065353216#32 = ((1 : ℝ) : EReal) := by
  have := ofBits_field 127 (by norm_num) (by norm_num)
  simpa using this

/-- The exponent as an integer, where the number is in the normal range. -/
theorem expo_spec (m : ℝ) (h : (2 : ℝ) ^ (-126 : ℤ) ≤ m) :
    ∃ E : ℤ, Ideal.liftRound Int.floor (Ideal.div (Ideal.log (m : EReal)) (Ideal.log (Ideal.ofBits .f32 0x40000000#32)))
        = ((E : ℝ) : EReal) ∧ (2 : ℝ) ^ E ≤ m ∧ m < (2 : ℝ) ^ (E + 1) := by
  have hm : 0 < m := lt_of_lt_of_le (by positivity) h
  have hl2 : 0 < Real.log 2 := Real.log_pos (by norm_num)
  refine ⟨⌊Real.log m / Real.log 2⌋, ?_, ?_, ?_⟩
  · have hlog : ∀ r : ℝ, 0 < r → Ideal.log (r : EReal) = (Real.log r : EReal) := fun r hr => if_neg (not_le.mpr hr)
    rw [two_eq, hlog m hm, hlog 2 (by norm_num)]
    have hne : ((Real.log 2 : ℝ) : EReal) ≠ 0 := by exact_mod_cast hl2.ne'
    rw [Ideal.div, if_neg hne, ← EReal.coe_inv, ← EReal.coe_mul, ← div_eq_mul_inv]
    rfl
  · have h1 := Int.floor_le (Real.log m / Real.log 2)
    rw [le_div_iff₀ hl2] at h1
    rw [← Real.log_le_log_iff (by positivity) hm, Real.log_zpow]
    exact h1
  · have h1 := Int.lt_floor_add_one (Real.log m / Real.log 2)
    rw [div_lt_iff₀ hl2] at h1
    rw [← Real.log_lt_log_iff hm (by positivity), Real.log_zpow]
    push_cast
    exact h1

theorem exp2_int (E : ℤ) : Ideal.exp2 ((E : ℝ) : EReal) = (((2 : ℝ) ^ E : ℝ) : EReal) := by
  show ((Real.rpow 2 (E : ℝ) : ℝ) : EReal) = _
  rw [show Real.rpow 2 (E : ℝ) = (2 : ℝ) ^ (E : ℝ) from rfl, Real.rpow_intCast]

/-- What the kernel makes of the field: the scale's word. -/
def scaleWord (b : BitVec 32) : BitVec 32 :=
  Scalar.select (IntOp.cmpi .eq b 0#32) 1065353216#32 (IntOp.addi b 8388608#32)
/-- And the word of its inverse. -/
def unscaleWord (b : BitVec 32) : BitVec 32 :=
  Scalar.select (IntOp.cmpi .eq b 0#32) 1065353216#32 (IntOp.subi 2122317824#32 b)

theorem words_zero : scaleWord 0#32 = 1065353216#32 ∧ unscaleWord 0#32 = 1065353216#32 := by decide

theorem words_field (b : BitVec 32) (N : ℕ) (hb : b.toNat = N * 8388608) (h1 : 1 ≤ N) (h2 : N ≤ 246) :
    (scaleWord b).toNat = (N + 1) * 8388608 ∧ (unscaleWord b).toNat = (253 - N) * 8388608 := by
  have hne : b ≠ 0#32 := by
    intro h
    rw [h, BitVec.toNat_ofNat] at hb
    omega
  have hc : IntOp.cmpi .eq b 0#32 = 0#1 := by
    have : (b == 0#32) = false := beq_eq_false_iff_ne.mpr hne
    simp [IntOp.cmpi, this]
  have hs : scaleWord b = b + 8388608#32 := by
    rw [scaleWord, hc]; rfl
  have hu : unscaleWord b = 2122317824#32 - b := by
    rw [unscaleWord, hc]; rfl
  constructor
  · rw [hs, BitVec.toNat_add, hb, BitVec.toNat_ofNat]
    omega
  · rw [hu, BitVec.toNat_sub, hb, BitVec.toNat_ofNat]
    omega

/-- The field of `a / 448`, against the specification's exponent. -/
theorem words_eq (a : EReal) (ha : 0 ≤ a) :
    Ideal.ofBits .f32 (scaleWord (fieldOf (a * inv448))) = scale a
      ∧ Ideal.ofBits .f32 (unscaleWord (fieldOf (a * inv448))) = unscale a := by
  have hC0 : (0 : EReal) ≤ inv448 := by rw [inv448_eq]; exact_mod_cast (by positivity)
  have hv0 : 0 ≤ a * inv448 := mul_nonneg ha hC0
  have hF : fmax * inv448 = (((16777215 : ℝ) * (2 : ℝ) ^ (104 : ℤ) * (9586981 * (2 : ℝ) ^ (-32 : ℤ)) : ℝ) : EReal) := by
    rw [fmax_eq, inv448_eq, ← EReal.coe_mul]
  have hFlo : (((2 : ℝ) ^ (119 : ℤ) : ℝ) : EReal) ≤ fmax * inv448 := by
    rw [hF, EReal.coe_le_coe_iff]; norm_num
  have hFhi : fmax * inv448 < (((2 : ℝ) ^ (120 : ℤ) : ℝ) : EReal) := by
    rw [hF, EReal.coe_lt_coe_iff]; norm_num
  have hle : unit a ≤ a * inv448 := mul_le_mul_of_nonneg_right (min_le_left _ _) hC0
  have hle' : unit a ≤ fmax * inv448 := mul_le_mul_of_nonneg_right (min_le_right _ _) hC0
  have hor : a * inv448 = unit a ∨ (((2 : ℝ) ^ (119 : ℤ) : ℝ) : EReal) ≤ unit a := by
    rcases le_total a fmax with h | h
    · left; rw [unit, min_eq_left h]
    · right; rw [unit, min_eq_right h]; exact hFlo
  by_cases ht : unit a < tiny
  · have hva : a * inv448 = unit a := by
      rcases hor with h | h
      · exact h
      · exfalso
        have := lt_of_le_of_lt h ht
        rw [tiny_eq, EReal.coe_lt_coe_iff] at this
        exact absurd this (by norm_num)
    have hf : fieldOf (a * inv448) = BitVec.ofNat 32 (0 * 8388608) := by
      refine fieldOf_eq _ hv0 0 (by norm_num) (Or.inl rfl) fun j hj _ => ?_
      rw [hva]
      refine lt_of_lt_of_le ht ?_
      rw [tiny_eq, EReal.coe_le_coe_iff]
      exact zpow_le_zpow_right₀ (by norm_num) (by omega)
    have he : expo a = 0 := if_pos ht
    have h0 : Ideal.exp2 0 = 1 := by
      have := exp2_int 0
      simpa using this
    rw [hf, show BitVec.ofNat 32 (0 * 8388608) = 0#32 from rfl, words_zero.1, words_zero.2, scale, unscale, he, sub_zero, h0,
      one_eq]
    exact ⟨rfl, rfl⟩
  · have ht' : tiny ≤ unit a := not_lt.mp ht
    obtain ⟨m, hm⟩ : ∃ m : ℝ, unit a = (m : EReal) := by
      refine ⟨(unit a).toReal, (EReal.coe_toReal ?_ ?_).symm⟩
      · exact ne_of_lt (lt_of_le_of_lt hle' (lt_trans hFhi (EReal.coe_lt_top _)))
      · exact ne_of_gt (lt_of_lt_of_le (by rw [tiny_eq]; exact EReal.bot_lt_coe _) ht')
    have hmlo : (2 : ℝ) ^ (-126 : ℤ) ≤ m := by rw [hm, tiny_eq, EReal.coe_le_coe_iff] at ht'; exact ht'
    have hmhi : m < (2 : ℝ) ^ (120 : ℤ) := by
      have := lt_of_le_of_lt hle' hFhi
      rw [hm, EReal.coe_lt_coe_iff] at this; exact this
    obtain ⟨E, hE, hE1, hE2⟩ := expo_spec m hmlo
    have hElo : -126 ≤ E := by
      have := (zpow_lt_zpow_iff_right₀ (by norm_num : (1 : ℝ) < 2)).mp (lt_of_le_of_lt hmlo hE2); omega
    have hEhi : E ≤ 119 := by
      have := (zpow_lt_zpow_iff_right₀ (by norm_num : (1 : ℝ) < 2)).mp (lt_of_le_of_lt hE1 hmhi); omega
    have he : expo a = (((E + 1 : ℤ) : ℝ) : EReal) := by
      rw [expo, if_neg ht, hm, hE]
      push_cast
      rfl
    obtain ⟨N, hN⟩ : ∃ N : ℕ, (N : ℤ) = E + 127 := ⟨(E + 127).toNat, by omega⟩
    have hf : (fieldOf (a * inv448)).toNat = N * 8388608 := by
      refine (congrArg BitVec.toNat (?_ : _ = BitVec.ofNat 32 (N * 8388608))).trans (by rw [BitVec.toNat_ofNat]; omega)
      refine fieldOf_eq _ hv0 N (by omega) (Or.inr ?_) fun j hj hj' => ?_
      · refine le_trans ?_ hle
        rw [hm, EReal.coe_le_coe_iff, show (N : ℤ) - 127 = E by omega]
        exact hE1
      · rcases hor with h | h
        · rw [h, hm, EReal.coe_lt_coe_iff]
          exact lt_of_lt_of_le hE2 (zpow_le_zpow_right₀ (by norm_num) (by omega))
        · exfalso
          rw [hm, EReal.coe_le_coe_iff] at h
          have := (zpow_lt_zpow_iff_right₀ (by norm_num : (1 : ℝ) < 2)).mp (lt_of_le_of_lt h hE2)
          omega
    generalize fieldOf (a * inv448) = b at hf
    have hw := words_field b N hf (by omega) (by omega)
    rw [ofBits_of_toNat _ _ hw.1 (by omega) (by omega), ofBits_of_toNat _ _ hw.2 (by omega) (by omega), scale, unscale, he,
      show (0 : EReal) - (((E + 1 : ℤ) : ℝ) : EReal) = ((((-(E + 1)) : ℤ) : ℝ) : EReal) by
        rw [zero_sub]; push_cast; rfl, exp2_int, exp2_int]
    constructor
    · congr 2; push_cast; omega
    · congr 2; omega

end Cert.Mlp
-- ==== Proof.Block.lean ====
module

public import proofs.«01_k».proof.Proof.Gen.KernelIdeal.Skeleton
public import proofs.«01_k».proof.Proof.Scale
public import Idealize.ShloMosaic.Lib.Pointwise
public import Idealize.ShloMosaic.Lib.Pipeline.ValueKit

@[expose] public section
noncomputable section

/-!
# The kernel's vocabulary, read at an index

The kernel's body repeats a few expressions: the field of a column of maxima, the scale and its inverse, a row's maximum,
the codes. Each has a name here, and a lemma that says what it holds at an index, in the specification's terms.
-/

namespace Cert.KernelIdeal.Block

open Idealize.ShloMosaic Idealize.ShloMosaic.TcCoe Idealize.SL.Sem
open Cert.KernelIdeal Cert.KernelIdeal.Gen Cert.Mlp

/-! ## Reading a column -/

theorem col_apply {α : Type} (v : S256.Idx → α) (r : Fin 256) :
    shapeCast S256x1 v shapeCasts_S256_S256x1 (ix2 r 0) = v (ix1 r) := by
  refine shapeCast_apply v _ _ _ ?_
  rw [Shape.rowMajor_val_one, Shape.rowMajor_val_two]
  simp

/-! ## The field, the scale and its inverse -/

/-- The words with the exponent fields 0 to 246, along each row. -/
def fields : IVec S256x256 32 :=
  muli (minsi (iota .tc S256x256 32 [1] iota_S256x256_d1_w32) (broadcast S256x256 246#32)) (broadcast S256x256 8388608#32)

/-- A column of maxima over 448. -/
def over448 (a : FVec Ideal S256x1 .f32) : FVec Ideal S256x1 .f32 :=
  mulf a (broadcast S256x1 (Scalar.ofBits .f32 0x3B124925#32))

/-- The words `w` whose power is not above the column's magnitude, zero elsewhere. -/
def keep (w : IVec S256x256 32) (v : FVec Ideal S256x1 .f32) : IVec S256x256 32 :=
  select (cmpf .olt (broadcastTo S256x256 (absf v) broadcasts_S256x1_S256x256) (bitcastToFloat .f32 w))
    (broadcast S256x256 0#32) w

/-- The column of words `M` where the number is finite, `c` elsewhere. -/
def finite (v : FVec Ideal S256x1 .f32) (M : IVec S256 32) (c : BitVec 32) : IVec S256x1 32 :=
  select (cmpf .oeq (mulf v (broadcast S256x1 (Scalar.ofBits .f32 0x00000000#32)))
      (broadcast S256x1 (Scalar.ofBits .f32 0x00000000#32)))
    (shapeCast S256x1 M shapeCasts_S256_S256x1) (broadcast S256x1 c)

/-- The exponent field of a column of maxima over 448. -/
def fieldVec (a : FVec Ideal S256x1 .f32) : IVec S256x1 32 :=
  finite (over448 a) (multiReductionI .maxsi [1] S256 (keep fields (over448 a)) 2147483648#32 reduces_S256x256_S256 rfl)
    2139095040#32

/-- The scale of a column of maxima. -/
def scaleVec (a : FVec Ideal S256x1 .f32) : FVec Ideal S256x1 .f32 :=
  bitcastToFloat .f32 (select (cmpi .eq (fieldVec a) (broadcast S256x1 0#32)) (broadcast S256x1 1065353216#32)
    (addi (fieldVec a) (broadcast S256x1 8388608#32)))

/-- The inverse of the scale. -/
def unscaleVec (a : FVec Ideal S256x1 .f32) : FVec Ideal S256x1 .f32 :=
  bitcastToFloat .f32 (select (cmpi .eq (fieldVec a) (broadcast S256x1 0#32)) (broadcast S256x1 1065353216#32)
    (subi (broadcast S256x1 2122317824#32) (fieldVec a)))

theorem lift256 (r k : Fin 256) : (reduces_S256x256_S256).lift (ix1 r) k = ix2 r k := by
  funext c
  apply Fin.ext
  fin_cases c <;> rfl

theorem reduceMax_apply (M : IVec S256x256 32) (r : Fin 256) :
    multiReductionI .maxsi [1] S256 M 2147483648#32 reduces_S256x256_S256 rfl (ix1 r)
      = Finset.univ.fold IntOp.maxsi 2147483648#32 fun k : Fin 256 => M (ix2 r k) := by
  refine (multiReductionI_eq_fold _ _ _ _ _ _).trans ?_
  refine (Shape.Reduces.fold_filter_drop_single reduces_S256x256_S256 IntOp.maxsi _ M (ix1 r)).trans ?_
  congr 1
  funext k
  exact congrArg M (lift256 r k)

theorem broadcast_col_apply (v : FVec Ideal S256x1 .f32) (r k : Fin 256) :
    broadcastTo S256x256 v broadcasts_S256x1_S256x256 (ix2 r k) = v (ix2 r 0) := by
  refine broadcastTo_apply v _ _ _ fun a => ?_
  fin_cases a <;> rfl

theorem absf_apply {s : Shape} {φ : FTy} (v : FVec Ideal s φ) (i : s.Idx) : absf v i = max (v i) (-v i) := rfl

theorem fields_apply (r k : Fin 256) : fields (ix2 r k) = fieldWord k := by
  have hi : iota .tc S256x256 32 [1] iota_S256x256_d1_w32 (ix2 r k) = BitVec.ofNat 32 k := by
    pointwise
  unfold fields fieldWord
  rw [← hi]
  unfold muli minsi broadcast
  rfl

theorem keep_apply (w : IVec S256x256 32) (v : FVec Ideal S256x1 .f32) (r k : Fin 256) :
    keep w v (ix2 r k) = Scalar.select (Ideal.cmp .olt (max (v (ix2 r 0)) (-v (ix2 r 0))) (Ideal.ofBits .f32 (w (ix2 r k)))) 0#32
      (w (ix2 r k)) := by
  pointwise [keep]
  rw [Ideal.absf_def]

theorem finite_apply (v : FVec Ideal S256x1 .f32) (M : IVec S256 32) (c : BitVec 32) (r : Fin 256) :
    finite v M c (ix2 r 0) = M (ix1 r) := by
  pointwise [finite]
  simp

theorem fieldVec_apply (a : FVec Ideal S256x1 .f32) (r : Fin 256) :
    fieldVec a (ix2 r 0) = fieldOf (a (ix2 r 0) * inv448) := by
  have h1 : over448 a (ix2 r 0) = a (ix2 r 0) * inv448 := rfl
  unfold fieldVec fieldOf
  rw [finite_apply, reduceMax_apply]
  simp only [keep_apply, fields_apply, h1]

theorem scaleVec_apply (a : FVec Ideal S256x1 .f32) (r : Fin 256) (ha : 0 ≤ a (ix2 r 0)) :
    scaleVec a (ix2 r 0) = scale (a (ix2 r 0)) := by
  rw [← (words_eq _ ha).1, ← fieldVec_apply]
  rfl

theorem unscaleVec_apply (a : FVec Ideal S256x1 .f32) (r : Fin 256) (ha : 0 ≤ a (ix2 r 0)) :
    unscaleVec a (ix2 r 0) = unscale (a (ix2 r 0)) := by
  rw [← (words_eq _ ha).2, ← fieldVec_apply]
  rfl

/-! ## A row's maximum -/

theorem ofBits_bot_f32 : Ideal.ofBits .f32 0xFF800000#32 = ⊥ := by
  simp [Ideal.ofBits, Ideal.ieee]

theorem ofBits_bot_bf16 : Ideal.ofBits .bf16 0xFF80#16 = ⊥ := by
  simp [Ideal.ofBits, Ideal.ieee]

theorem amax_nonneg {n : ℕ} (f : Fin (n + 1) → EReal) : 0 ≤ amax f := by
  unfold amax
  rw [Finset.le_fold_max]
  right
  refine ⟨0, Finset.mem_univ _, ?_⟩
  rcases le_total 0 (f 0) with h | h
  · exact h.trans (le_max_left _ _)
  · exact (by simpa using EReal.neg_le_neg_iff.mpr h : (0 : EReal) ≤ -f 0).trans (le_max_right _ _)

/-- The maxima of the rows of `x`. -/
def amaxX (x : FVec Ideal S256x4096 .bf16) : FVec Ideal S256x1 .f32 :=
  extf .f32 (shapeCast S256x1 (multiReduction .maximumf [1] S256 (absf (shapeCast S256x4096 x shapeCasts_S256x4096_S256x4096))
    0xFF80#16 reduces_S256x4096_S256 (.inr rfl) rfl) shapeCasts_S256_S256x1) bitsLt_bf16_f32

/-- The maxima of the rows of a group. -/
def amaxH (h : FVec Ideal S256x128 .f32) : FVec Ideal S256x1 .f32 :=
  shapeCast S256x1 (multiReduction .maximumf [1] S256 (absf h) 0xFF800000#32 reduces_S256x128_S256 (.inl rfl) rfl)
    shapeCasts_S256_S256x1

theorem lift4096 (r : Fin 256) (k : Fin 4096) : (reduces_S256x4096_S256).lift (ix1 r) k = ix2 r k := by
  funext c
  apply Fin.ext
  fin_cases c <;> rfl

theorem lift128 (r : Fin 256) (k : Fin 128) : (reduces_S256x128_S256).lift (ix1 r) k = ix2 r k := by
  funext c
  apply Fin.ext
  fin_cases c <;> rfl

theorem rowMaxX (x : FVec Ideal S256x4096 .bf16) (r : Fin 256) :
    multiReduction .maximumf [1] S256 (absf x) 0xFF80#16 reduces_S256x4096_S256 (.inr rfl) rfl (ix1 r)
      = amax fun k : Fin 4096 => x (ix2 r k) := by
  refine (Ideal.multiReduction_maximumf_single _ _ _ _ _ _).trans ?_
  have h0 : (FloatOps.ofBits .bf16 0xFF80#16 : Ideal .bf16) = Ideal.ofBits .f32 0xFF800000#32 :=
    ofBits_bot_bf16.trans ofBits_bot_f32.symm
  rw [h0]
  unfold amax
  refine congrArg (fun f => Finset.univ.fold max (Ideal.ofBits .f32 0xFF800000#32) f) ?_
  funext k
  exact (absf_apply x _).trans (congrArg (fun i => max (x i) (-x i)) (lift4096 r k))

theorem amaxX_apply (x : FVec Ideal S256x4096 .bf16) (r : Fin 256) :
    amaxX x (ix2 r 0) = amax fun k : Fin 4096 => x (ix2 r k) := by
  unfold amaxX
  rw [shapeCast_self x, ← rowMaxX x r]
  generalize multiReduction .maximumf [1] S256 (absf x) 0xFF80#16 reduces_S256x4096_S256 (.inr rfl) rfl = v
  exact col_apply v r

theorem amaxH_apply (h : FVec Ideal S256x128 .f32) (r : Fin 256) :
    amaxH h (ix2 r 0) = amax fun k : Fin 128 => h (ix2 r k) := by
  show shapeCast S256x1 _ shapeCasts_S256_S256x1 (ix2 r 0) = _
  rw [col_apply]
  refine (Ideal.multiReduction_maximumf_single _ _ _ _ _ _).trans ?_
  unfold amax
  show Finset.univ.fold max (Ideal.ofBits .f32 0xFF800000#32) _ = _
  congr 1
  funext k
  exact (absf_apply h _).trans (congrArg (fun i => max (h i) (-h i)) (lift128 r k))

theorem amaxX_nonneg (x : FVec Ideal S256x4096 .bf16) (r : Fin 256) : 0 ≤ amaxX x (ix2 r 0) := by
  rw [amaxX_apply]; exact amax_nonneg _

theorem amaxH_nonneg (h : FVec Ideal S256x128 .f32) (r : Fin 256) : 0 ≤ amaxH h (ix2 r 0) := by
  rw [amaxH_apply]; exact amax_nonneg _

/-! ## Codes -/

/-- The codes of the rows of `x`. -/
def codesX (x : FVec Ideal S256x4096 .bf16) : FVec Ideal S256x4096 .fp8e4m3 := k0_pay6 (unscaleVec (amaxX x)) x

theorem codesX_apply (x : FVec Ideal S256x4096 .bf16) (r : Fin 256) (k : Fin 4096) :
    codesX x (ix2 r k) = xcode (fun k => x (ix2 r k)) k := by
  unfold xcode code
  rw [← amaxX_apply, ← unscaleVec_apply _ _ (amaxX_nonneg x r)]
  unfold codesX
  generalize unscaleVec (amaxX x) = u
  pointwise [k0_pay6]
  rfl

/-- The codes of the rows of a group. -/
def codesH (h : FVec Ideal S256x128 .f32) : FVec Ideal S256x128 .fp8e4m3 :=
  truncf .fp8e4m3 (minimumf (broadcast S256x128 (Scalar.ofBits .f32 0x43E00000#32))
    (maximumf (broadcast S256x128 (Scalar.ofBits .f32 0xC3E00000#32))
      (mulf h (broadcastTo S256x128 (unscaleVec (amaxH h)) broadcasts_S256x1_S256x128)))) bitsLt_fp8e4m3_f32

theorem broadcast_col128_apply {α : Type} (v : S256x1.Idx → α) (r : Fin 256) (l : Fin 128) :
    broadcastTo S256x128 v broadcasts_S256x1_S256x128 (ix2 r l) = v (ix2 r 0) := by
  refine broadcastTo_apply v _ _ _ fun a => ?_
  fin_cases a <;> rfl

theorem codesH_apply (h : FVec Ideal S256x128 .f32) (r : Fin 256) (l : Fin 128) :
    codesH h (ix2 r l) = code (amax fun l => h (ix2 r l)) (h (ix2 r l)) := by
  unfold code
  rw [← amaxH_apply, ← unscaleVec_apply _ _ (amaxH_nonneg h r)]
  show min (Ideal.ofBits .f32 0x43E00000#32) (max (Ideal.ofBits .f32 0xC3E00000#32)
    (h (ix2 r l) * broadcastTo S256x128 (unscaleVec (amaxH h)) broadcasts_S256x1_S256x128 (ix2 r l))) = _
  rw [broadcast_col128_apply]
  rfl

/-- The rows of a group, back from their codes. -/
def valsH (h : FVec Ideal S256x128 .f32) : FVec Ideal S256x128 .bf16 :=
  shapeCast S256x128 (mulf (extf .bf16 (codesH h) bitsLt_fp8e4m3_bf16)
    (broadcastTo S256x128 (truncf .bf16 (scaleVec (amaxH h)) bitsLt_bf16_f32) broadcasts_S256x1_S256x128))
    shapeCasts_S256x128_S256x128

theorem valsH_apply (h : FVec Ideal S256x128 .f32) (r : Fin 256) (l : Fin 128) :
    valsH h (ix2 r l) = code (amax fun l => h (ix2 r l)) (h (ix2 r l)) * scale (amax fun l => h (ix2 r l)) := by
  rw [← codesH_apply, ← amaxH_apply, ← scaleVec_apply _ _ (amaxH_nonneg h r)]
  unfold valsH
  rw [shapeCast_id]
  show codesH h (ix2 r l) * broadcastTo S256x128 (truncf .bf16 (scaleVec (amaxH h)) bitsLt_bf16_f32) broadcasts_S256x1_S256x128
    (ix2 r l) = _
  rw [broadcast_col128_apply]
  rfl

end Cert.KernelIdeal.Block
-- ==== Proof.Chunk.lean ====
module

public import proofs.«01_k».proof.Proof.Block

@[expose] public section
noncomputable section

/-!
# One group of the activation, and one tile of the result

The kernel computes the activation 256 columns at a time and takes each such chunk in two groups of 128. This file names a
group, as a function of the kernel's input blocks, and says what it, its codes, its scale and its values are.
-/

namespace Cert.KernelIdeal.Block

open Idealize.ShloMosaic Idealize.ShloMosaic.TcCoe Idealize.SL.Sem
open Cert.KernelIdeal Cert.KernelIdeal.Gen Cert.Mlp

/-! ## The activation of 256 columns -/

theorem act_block_apply (s : FVec Ideal S256x1 .f32) (c : FVec Ideal S256x4096 .fp8e4m3) (wg wu : FVec Ideal S4096x256 .fp8e4m3)
    (sg su : FVec Ideal S1x256 .f32) (r l : Fin 256) :
    k0_pay8 s c wg wu sg su (ix2 r l)
      = ((∑ k, c (ix2 r k) * wg (ix2 k l)) * s (ix2 r 0) * sg (ix2 0 l))
          * Ideal.logistic ((∑ k, c (ix2 r k) * wg (ix2 k l)) * s (ix2 r 0) * sg (ix2 0 l))
          * ((∑ k, c (ix2 r k) * wu (ix2 k l)) * s (ix2 r 0) * su (ix2 0 l)) := by
  pointwise [k0_pay8]

/-- A tile of 256 columns of the gate and up weights lies in the array. -/
theorem inW (o : ℕ) (ho : o + 256 ≤ 5632) : ∀ a, (![0, o] : Fin 2 → ℕ) a + S4096x256.size a ≤ S4096x5632.size a := by
  intro a; fin_cases a
  · exact le_refl 4096
  · exact ho

/-- And so does the tile of their scales. -/
theorem inS (o : ℕ) (ho : o + 256 ≤ 5632) : ∀ a, (![0, o] : Fin 2 → ℕ) a + S1x256.size a ≤ S1x5632.size a := by
  intro a; fin_cases a
  · exact le_refl 1
  · exact ho

/-- A group's columns lie in the activation. -/
theorem inH (o : ℕ) (ho : o + 128 ≤ 2816) : ∀ a, (![0, o] : Fin 2 → ℕ) a + S256x128.size a ≤ S256x2816.size a := by
  intro a; fin_cases a
  · exact le_refl 256
  · exact ho

/-- A group's columns lie in their chunk. -/
theorem inChunk (s : ℕ) (hs : s + 128 ≤ 256) : S256x256.Slices ![0, s] S256x128 := by
  refine ⟨rfl, fun a => ?_⟩
  fin_cases a
  · exact le_refl 256
  · exact hs

section
variable (x0 : FVec Ideal S256x4096 .bf16) (x1 : FVec Ideal S4096x5632 .fp8e4m3) (x2 : FVec Ideal S1x5632 .f32)

/-- Row `r` of the block of `x`. -/
def rowX (r : Fin 256) : Fin 4096 → EReal := fun k => x0 (ix2 r k)
/-- The gate and up weights by row and column. -/
def matW : Fin 4096 → Fin 5632 → EReal := fun k j => x1 (ix2 k j)
/-- Their scales by column. -/
def vecS : Fin 5632 → EReal := fun j => x2 (ix2 0 j)

/-- The 256 columns of the weights from `o`. -/
def tileW (o : ℕ) (ho : o + 256 ≤ 5632) : FVec Ideal S4096x256 .fp8e4m3 :=
  View.ld (Val := Elt Ideal) (S := S4096x5632) (e' := .fp8e4m3) x1
    (Rect.unit (s := S4096x5632) ![0, o] S4096x256.size (inW o ho))

/-- The 256 columns of their scales from `o`. -/
def tileS (o : ℕ) (ho : o + 256 ≤ 5632) : FVec Ideal S1x256 .f32 :=
  View.ld (Val := Elt Ideal) (S := S1x5632) (e' := .f32) x2 (Rect.unit (s := S1x5632) ![0, o] S1x256.size (inS o ho))

/-- The activation of the 256 columns from `o`. -/
def chunk (o : ℕ) (ho : o + 256 ≤ 2816) : FVec Ideal S256x256 .f32 :=
  k0_pay8 (scaleVec (amaxX x0)) (codesX x0) (tileW x1 o (by omega)) (tileW x1 (2816 + o) (by omega))
    (tileS x2 o (by omega)) (tileS x2 (2816 + o) (by omega))

theorem tileW_apply (o : ℕ) (ho : o + 256 ≤ 5632) (k : Fin 4096) (l : Fin 256) :
    tileW x1 o ho (ix2 k l) = matW x1 k ⟨o + l, by omega⟩ := by
  refine View.ld_unit_apply_of (Val := Elt Ideal) (S := S4096x5632) (e := .fp8e4m3) x1 _ _ _ _ (ix2 k ⟨o + l, by omega⟩) fun a => ?_
  fin_cases a
  · exact (Nat.zero_add _).symm
  · rfl

theorem tileS_apply (o : ℕ) (ho : o + 256 ≤ 5632) (l : Fin 256) :
    tileS x2 o ho (ix2 0 l) = vecS x2 ⟨o + l, by omega⟩ := by
  refine View.ld_unit_apply_of (Val := Elt Ideal) (S := S1x5632) (e := .f32) x2 _ _ _ _ (ix2 0 ⟨o + l, by omega⟩) fun a => ?_
  fin_cases a
  · rfl
  · rfl

theorem chunk_apply (o : ℕ) (ho : o + 256 ≤ 2816) (r l : Fin 256) :
    chunk x0 x1 x2 o ho (ix2 r l) = act (rowX x0 r) (matW x1) (vecS x2) ⟨o + l, by omega⟩ := by
  unfold chunk act gateUp
  rw [act_block_apply, scaleVec_apply _ _ (amaxX_nonneg x0 r), amaxX_apply, tileS_apply, tileS_apply]
  simp only [codesX_apply, tileW_apply, Nat.add_assoc]
  rfl

/-- Group `g` of the activation. -/
def group (g : ℕ) (hg : g < 22) : FVec Ideal S256x128 .f32 :=
  extractStridedSlice S256x128 ![0, 128 * (g % 2)] (chunk x0 x1 x2 (256 * (g / 2)) (by omega)) (inChunk _ (by omega))

theorem group_apply (g : ℕ) (hg : g < 22) (r : Fin 256) (l : Fin 128) :
    group x0 x1 x2 g hg (ix2 r l) = act (rowX x0 r) (matW x1) (vecS x2) ⟨128 * g + l, by omega⟩ := by
  have h : group x0 x1 x2 g hg (ix2 r l)
      = chunk x0 x1 x2 (256 * (g / 2)) (by omega) (ix2 r ⟨128 * (g % 2) + l, by omega⟩) := by
    unfold group extractStridedSlice
    refine congrArg _ (funext fun a => ?_)
    fin_cases a
    · exact Fin.ext (Nat.zero_add _)
    · rfl
  rw [h, chunk_apply]
  refine congrArg _ (Fin.ext ?_)
  show 256 * (g / 2) + (128 * (g % 2) + l.val) = 128 * g + l.val
  omega

theorem group_amax (g : ℕ) (hg : g < 22) (r : Fin 256) :
    (amax fun l => group x0 x1 x2 g hg (ix2 r l)) = hmax (rowX x0 r) (matW x1) (vecS x2) ⟨g, hg⟩ := by
  unfold hmax
  refine congrArg _ (funext fun l => ?_)
  exact group_apply x0 x1 x2 g hg r l

/-! ## Whole blocks -/

/-- The codes of the activation, at every column. -/
def HC : FVec Ideal S256x2816 .fp8e4m3 := fun j => hcode (rowX x0 (j 0)) (matW x1) (vecS x2) (j 1)
/-- The scales of the activation, at every group. -/
def HS : FVec Ideal S256x22 .f32 := fun j => hscale (rowX x0 (j 0)) (matW x1) (vecS x2) (j 1)
/-- The activation back from its codes, at every column. -/
def HV : FVec Ideal S256x2816 .bf16 := fun j => hval (rowX x0 (j 0)) (matW x1) (vecS x2) (j 1)

theorem emb_group (g : ℕ) (hg : g < 22) (inb) (r : Fin 256) (l : Fin 128) :
    (Rect.unit (s := S256x2816) ![0, 128 * g] S256x128.size inb).emb (ix2 r l) = ix2 r ⟨128 * g + l, by omega⟩ := by
  funext a
  apply Fin.ext
  refine (Rect.idx_unit_val _ _ _ _ a).trans ?_
  fin_cases a
  · exact Nat.zero_add _
  · rfl

theorem grp_of (g : ℕ) (hg : g < 22) (l : Fin 128) : grp ⟨128 * g + l, by omega⟩ = ⟨g, hg⟩ :=
  Fin.ext (show (128 * g + l.val) / 128 = g by omega)

theorem codes_piece (g : ℕ) (hg : g < 22) (inb) (x : S256x128.Idx) :
    codesH (group x0 x1 x2 g hg) x = HC x0 x1 x2 ((Rect.unit (s := S256x2816) ![0, 128 * g] S256x128.size inb).emb x) := by
  obtain ⟨r, l, rfl⟩ : ∃ (r : Fin 256) (l : Fin 128), x = ix2 r l := ⟨x 0, x 1, eq_ix2 x⟩
  rw [emb_group _ hg, codesH_apply, group_amax, group_apply]
  show _ = hcode (rowX x0 r) (matW x1) (vecS x2) ⟨128 * g + l, _⟩
  unfold hcode
  rw [grp_of g hg]

theorem vals_piece (g : ℕ) (hg : g < 22) (inb) (x : S256x128.Idx) :
    valsH (group x0 x1 x2 g hg) x = HV x0 x1 x2 ((Rect.unit (s := S256x2816) ![0, 128 * g] S256x128.size inb).emb x) := by
  obtain ⟨r, l, rfl⟩ : ∃ (r : Fin 256) (l : Fin 128), x = ix2 r l := ⟨x 0, x 1, eq_ix2 x⟩
  rw [emb_group _ hg, valsH_apply, group_amax, group_apply]
  show _ = hval (rowX x0 r) (matW x1) (vecS x2) ⟨128 * g + l, _⟩
  unfold hval hcode hscale
  rw [grp_of g hg]

theorem scale_group (g : ℕ) (hg : g < 22) (r : Fin 256) :
    scaleVec (amaxH (group x0 x1 x2 g hg)) (ix2 r 0) = hscale (rowX x0 r) (matW x1) (vecS x2) ⟨g, hg⟩ := by
  rw [scaleVec_apply _ _ (amaxH_nonneg _ r), amaxH_apply, group_amax]
  rfl

/-! ## The scales, lane by lane -/

/-- Lane `g` set to a column, the other lanes kept. -/
def setLane (g : BitVec 32) (v : FVec Ideal S256x1 .f32) (p : FVec Ideal S256x22 .f32) : FVec Ideal S256x22 .f32 :=
  select (cmpi .eq (iota .tc S256x22 32 [1] iota_S256x22_d1_w32) (broadcast S256x22 g))
    (broadcastTo S256x22 (shapeCast S256x1 v shapeCasts_S256x1_S256x1) broadcasts_S256x1_S256x22) p

theorem setLane_apply (g : BitVec 32) (v : FVec Ideal S256x1 .f32) (p : FVec Ideal S256x22 .f32) (r : Fin 256) (l : Fin 22) :
    setLane g v p (ix2 r l) = if BitVec.ofNat 32 l = g then v (ix2 r 0) else p (ix2 r l) := by
  pointwise [setLane]
  by_cases h : BitVec.ofNat 32 l.val = g
  · simp [IntOp.cmpi, Scalar.select, h]
  · have hb : (BitVec.ofNat 32 l.val == g) = false := beq_eq_false_iff_ne.mpr h
    simp [IntOp.cmpi, Scalar.select, h, hb]

/-- The lanes below `n` hold the scales. -/
def LanesTo (n : ℕ) (p : FVec Ideal S256x22 .f32) : Prop :=
  ∀ (r : Fin 256) (l : Fin 22), l.val < n → p (ix2 r l) = HS x0 x1 x2 (ix2 r l)

theorem lanes_zero (p : FVec Ideal S256x22 .f32) : LanesTo x0 x1 x2 0 p := fun _ _ h => absurd h (Nat.not_lt_zero _)

theorem lanes_succ (g : ℕ) (hg : g < 22) (p : FVec Ideal S256x22 .f32) (hp : LanesTo x0 x1 x2 g p) :
    LanesTo x0 x1 x2 (g + 1) (setLane (BitVec.ofNat 32 g) (scaleVec (amaxH (group x0 x1 x2 g hg))) p) := by
  intro r l hl
  rw [setLane_apply]
  by_cases h : l.val = g
  · rw [if_pos (by rw [h]), scale_group]
    subst h
    rfl
  · rw [if_neg, hp r l (by omega)]
    intro hc
    have := congrArg BitVec.toNat hc
    simp only [BitVec.toNat_ofNat] at this
    omega

/-- All lanes hold the scales. -/
theorem lanes_all (p : FVec Ideal S256x22 .f32) (hp : LanesTo x0 x1 x2 22 p) : p = HS x0 x1 x2 := by
  funext j
  rw [eq_ix2 j]
  exact hp _ _ (j 1).isLt

end

/-! ## A tile of the result -/

section
variable (v : FVec Ideal S256x2816 .bf16) (x3 : FVec Ideal S2816x4096 .fp8e4m3) (x4 : FVec Ideal S1x4096 .f32)

/-- The down product with its scale, at every column. -/
def DOWN : FVec Ideal S256x4096 .bf16 := fun j => (∑ k : Fin 2816, v (ix2 (j 0) k) * x3 (ix2 k (j 1))) * x4 (ix2 0 (j 1))

end

end Cert.KernelIdeal.Block
-- ==== Proof.Results.lean ====
module

public import proofs.«01_k».proof.Proof.Chunk
public import proofs.«01_k».proof.Proof.Gen.KernelIdeal.Value
public import Idealize.ShloMosaic.Lib.Pipeline.ReadBack

@[expose] public section
noncomputable section

/-!
# What one grid point leaves in each result block
-/

namespace Cert.KernelIdeal.Block

open Idealize.ShloMosaic Idealize.ShloMosaic.TcCoe Idealize.SL.Sem
open Cert.KernelIdeal Cert.KernelIdeal.Gen Cert.Mlp

theorem xscale_eq (x0 : FVec Ideal S256x4096 .bf16) : k0_pay4 x0 = scaleVec (amaxX x0) := rfl

theorem xunscale_eq (x0 : FVec Ideal S256x4096 .bf16) : k0_pay5 x0 = unscaleVec (amaxX x0) := rfl

theorem xcodes_eq (x0 : FVec Ideal S256x4096 .bf16) : k0_pay6 (unscaleVec (amaxX x0)) x0 = codesX x0 := rfl

/-! ## The stores of the groups -/

section
variable (x0 : FVec Ideal S256x4096 .bf16) (x1 : FVec Ideal S4096x5632 .fp8e4m3) (x2 : FVec Ideal S1x5632 .f32)

/-- The store of the codes of group `g`. -/
def codePiece (g : ℕ) (hg : g < 22) : View.Piece (Elt Ideal) S256x2816 .fp8e4m3 :=
  ⟨Rect.unit (s := S256x2816) ![0, 128 * g] S256x128.size (inH (128 * g) (by omega)), codesH (group x0 x1 x2 g hg)⟩

/-- The store of the values of group `g`. -/
def valPiece (g : ℕ) (hg : g < 22) : View.Piece (Elt Ideal) S256x2816 .bf16 :=
  ⟨Rect.unit (s := S256x2816) ![0, 128 * g] S256x128.size (inH (128 * g) (by omega)), valsH (group x0 x1 x2 g hg)⟩

/-- The stores of the codes, last first. -/
def codePieces : List (View.Piece (Elt Ideal) S256x2816 .fp8e4m3) :=
  List.ofFn fun k : Fin 22 => codePiece x0 x1 x2 (21 - k) (by omega)

/-- The stores of the values, last first. -/
def valPieces : List (View.Piece (Elt Ideal) S256x2816 .bf16) :=
  List.ofFn fun k : Fin 22 => valPiece x0 x1 x2 (21 - k) (by omega)

theorem canon_codePieces : View.canon (codePieces x0 x1 x2) = HC x0 x1 x2 := by
  funext y
  refine View.canon_apply_of_pieces (Val := Elt Ideal) (e := .fp8e4m3) (HC x0 x1 x2) _ (fun p hp x => ?_) y ?_
  · obtain ⟨k, rfl⟩ := (List.mem_ofFn' _ _).mp hp
    exact codes_piece x0 x1 x2 (21 - k) (by omega) (inH (128 * (21 - k)) (by omega)) x
  · exact View.cover_of_tiled_head _ _ _ (by rfl) y

theorem canon_valPieces : View.canon (valPieces x0 x1 x2) = HV x0 x1 x2 := by
  funext y
  refine View.canon_apply_of_pieces (Val := Elt Ideal) (e := .bf16) (HV x0 x1 x2) _ (fun p hp x => ?_) y ?_
  · obtain ⟨k, rfl⟩ := (List.mem_ofFn' _ _).mp hp
    exact vals_piece x0 x1 x2 (21 - k) (by omega) (inH (128 * (21 - k)) (by omega)) x
  · exact View.cover_of_tiled_head _ _ _ (by rfl) y

/-- The values read back whole, after all the stores. -/
theorem whole_vals {κ sp} (b : View sig κ sp S256x2816 .bf16) (inb) (L : List (View.Piece (Elt Ideal) S256x2816 .bf16))
    (hL : L = valPieces x0 x1 x2) :
    b.readCov L (Rect.unit (s := S256x2816) ![0, 0] ![256, 2816] inb).toLoadRect = HV x0 x1 x2 := by
  rw [View.readCov_eq_canon', hL, canon_valPieces]
  funext j
  refine congrArg (HV x0 x1 x2) ?_
  funext a
  apply Fin.ext
  refine (Rect.idx_unit_val _ _ _ _ a).trans ?_
  fin_cases a
  · exact Nat.zero_add _
  · exact Nat.zero_add _

/-- The scales of the groups below `n`, each in its lane. -/
def lanes : (n : ℕ) → n ≤ 22 → FVec Ideal S256x22 .f32
  | 0, _ => broadcast S256x22 (Scalar.ofBits .f32 0x00000000#32)
  | n + 1, h => setLane (BitVec.ofNat 32 n) (scaleVec (amaxH (group x0 x1 x2 n h))) (lanes n (Nat.le_of_succ_le h))

theorem lanes_below : ∀ (n : ℕ) (h : n ≤ 22), LanesTo x0 x1 x2 n (lanes x0 x1 x2 n h)
  | 0, _ => lanes_zero x0 x1 x2 _
  | n + 1, h => lanes_succ x0 x1 x2 n h _ (lanes_below n (Nat.le_of_succ_le h))

theorem lanes_eq : lanes x0 x1 x2 22 (le_refl 22) = HS x0 x1 x2 :=
  lanes_all x0 x1 x2 _ (lanes_below x0 x1 x2 22 (le_refl 22))

end

/-! ## The stores of the result's tiles -/

section
variable (v : FVec Ideal S256x2816 .bf16) (x3 : FVec Ideal S2816x4096 .fp8e4m3) (x4 : FVec Ideal S1x4096 .f32)

/-- A tile of 256 columns lies in the down weights. -/
theorem inD (o : ℕ) (ho : o + 256 ≤ 4096) : ∀ a, (![0, o] : Fin 2 → ℕ) a + S2816x256.size a ≤ S2816x4096.size a := by
  intro a; fin_cases a
  · exact le_refl 2816
  · exact ho

/-- And in their scales. -/
theorem inE (o : ℕ) (ho : o + 256 ≤ 4096) : ∀ a, (![0, o] : Fin 2 → ℕ) a + S1x256.size a ≤ S1x4096.size a := by
  intro a; fin_cases a
  · exact le_refl 1
  · exact ho

/-- And in the result. -/
theorem inO (o : ℕ) (ho : o + 256 ≤ 4096) : ∀ a, (![0, o] : Fin 2 → ℕ) a + S256x256.size a ≤ S256x4096.size a := by
  intro a; fin_cases a
  · exact le_refl 256
  · exact ho

/-- The 256 columns of the down weights from `o`. -/
def tileD (o : ℕ) (ho : o + 256 ≤ 4096) : FVec Ideal S2816x256 .fp8e4m3 :=
  View.ld (Val := Elt Ideal) (S := S2816x4096) (e' := .fp8e4m3) x3
    (Rect.unit (s := S2816x4096) ![0, o] S2816x256.size (inD o ho))

/-- The 256 columns of their scales from `o`. -/
def tileE (o : ℕ) (ho : o + 256 ≤ 4096) : FVec Ideal S1x256 .f32 :=
  View.ld (Val := Elt Ideal) (S := S1x4096) (e' := .f32) x4 (Rect.unit (s := S1x4096) ![0, o] S1x256.size (inE o ho))

theorem tileD_apply (o : ℕ) (ho : o + 256 ≤ 4096) (k : Fin 2816) (l : Fin 256) :
    tileD x3 o ho (ix2 k l) = x3 (ix2 k ⟨o + l, by omega⟩) := by
  refine View.ld_unit_apply_of (Val := Elt Ideal) (S := S2816x4096) (e := .fp8e4m3) x3 _ _ _ _ (ix2 k ⟨o + l, by omega⟩) fun a => ?_
  fin_cases a
  · exact (Nat.zero_add _).symm
  · rfl

theorem tileE_apply (o : ℕ) (ho : o + 256 ≤ 4096) (l : Fin 256) :
    tileE x4 o ho (ix2 0 l) = x4 (ix2 0 ⟨o + l, by omega⟩) := by
  refine View.ld_unit_apply_of (Val := Elt Ideal) (S := S1x4096) (e := .f32) x4 _ _ _ _ (ix2 0 ⟨o + l, by omega⟩) fun a => ?_
  fin_cases a
  · rfl
  · rfl

/-- One tile of the result. -/
def tileO (wd : FVec Ideal S2816x256 .fp8e4m3) (sd : FVec Ideal S1x256 .f32) : FVec Ideal S256x256 .bf16 :=
  k0_pay233 v wd sd

theorem tileO_apply (wd : FVec Ideal S2816x256 .fp8e4m3) (sd : FVec Ideal S1x256 .f32) (r l : Fin 256) :
    tileO v wd sd (ix2 r l) = (∑ k : Fin 2816, v (ix2 r k) * wd (ix2 k l)) * sd (ix2 0 l) := by
  pointwise [tileO, k0_pay233]

/-- The store of tile `n` of the result. -/
def outPiece (n : ℕ) (hn : n < 16) : View.Piece (Elt Ideal) S256x4096 .bf16 :=
  ⟨Rect.unit (s := S256x4096) ![0, 256 * n] S256x256.size (inO (256 * n) (by omega)),
    tileO v (tileD x3 (256 * n) (by omega)) (tileE x4 (256 * n) (by omega))⟩

/-- The stores of the result, last first. -/
def outPieces : List (View.Piece (Elt Ideal) S256x4096 .bf16) :=
  List.ofFn fun k : Fin 16 => outPiece v x3 x4 (15 - k) (by omega)

theorem emb_tile (n : ℕ) (hn : n < 16) (inb) (r l : Fin 256) :
    (Rect.unit (s := S256x4096) ![0, 256 * n] S256x256.size inb).emb (ix2 r l) = ix2 r ⟨256 * n + l, by omega⟩ := by
  funext a
  apply Fin.ext
  refine (Rect.idx_unit_val _ _ _ _ a).trans ?_
  fin_cases a
  · exact Nat.zero_add _
  · rfl

theorem out_piece (n : ℕ) (hn : n < 16) (inb) (x : S256x256.Idx) :
    tileO v (tileD x3 (256 * n) (by omega)) (tileE x4 (256 * n) (by omega)) x
      = DOWN v x3 x4 ((Rect.unit (s := S256x4096) ![0, 256 * n] S256x256.size inb).emb x) := by
  obtain ⟨r, l, rfl⟩ : ∃ (r l : Fin 256), x = ix2 r l := ⟨x 0, x 1, eq_ix2 x⟩
  rw [emb_tile _ hn, tileO_apply, tileE_apply]
  simp only [tileD_apply]
  rfl

theorem canon_outPieces : View.canon (outPieces v x3 x4) = DOWN v x3 x4 := by
  funext y
  refine View.canon_apply_of_pieces (Val := Elt Ideal) (e := .bf16) (DOWN v x3 x4) _ (fun p hp x => ?_) y ?_
  · obtain ⟨k, rfl⟩ := (List.mem_ofFn' _ _).mp hp
    exact out_piece v x3 x4 (15 - k) (by omega) (inO (256 * (15 - k)) (by omega)) x
  · exact View.cover_of_tiled_head _ _ _ (by rfl) y

end

variable (m : (ℓ : Loc nD τ sig) → Buf (Elt Ideal) ℓ) (c : Dev nD) (t : Fin cfg0.N)

theorem point_xcodes : (outsAt0 m c t).2.1 = codesX (iblk m c 0 t) := by
  unfold outsAt0
  frame_out
  generalize iblk m c 0 t = x0
  rw [xunscale_eq, xcodes_eq]

theorem point_xscale : (outsAt0 m c t).2.2.1 = scaleVec (amaxX (iblk m c 0 t)) := by
  unfold outsAt0
  frame_out
  generalize iblk m c 0 t = x0
  rw [xscale_eq]

theorem point_hcodes : (outsAt0 m c t).2.2.2.1 = HC (iblk m c 0 t) (iblk m c 1 t) (iblk m c 2 t) := by
  unfold outsAt0
  frame_out
  generalize iblk m c 0 t = x0
  generalize iblk m c 1 t = x1
  generalize iblk m c 2 t = x2
  simp only [xunscale_eq, xcodes_eq, xscale_eq]
  refine Eq.trans (congrArg View.canon ?_) (canon_codePieces x0 x1 x2)
  rfl

theorem point_hscale : (outsAt0 m c t).2.2.2.2 = HS (iblk m c 0 t) (iblk m c 1 t) (iblk m c 2 t) := by
  unfold outsAt0
  frame_out
  generalize iblk m c 0 t = x0
  generalize iblk m c 1 t = x1
  generalize iblk m c 2 t = x2
  simp only [xunscale_eq, xcodes_eq, xscale_eq]
  refine Eq.trans ?_ (lanes_eq x0 x1 x2)
  rfl

theorem point_out : (outsAt0 m c t).1
    = DOWN (HV (iblk m c 0 t) (iblk m c 1 t) (iblk m c 2 t)) (iblk m c 3 t) (iblk m c 4 t) := by
  unfold outsAt0
  frame_out
  generalize iblk m c 0 t = x0
  generalize iblk m c 1 t = x1
  generalize iblk m c 2 t = x2
  generalize iblk m c 3 t = x3
  generalize iblk m c 4 t = x4
  simp only [xunscale_eq, xcodes_eq, xscale_eq]
  rw [whole_vals x0 x1 x2 _ _ _ ?vals]
  case vals => rfl
  generalize HV x0 x1 x2 = v
  refine Eq.trans (congrArg View.canon ?_) (canon_outPieces v x3 x4)
  rfl

end Cert.KernelIdeal.Block
-- ==== Proof.Arrays.lean ====
module

public import proofs.«01_k».proof.Proof.Results
public import Idealize.ShloMosaic.Lib.Pipeline.ValueKit

@[expose] public section
noncomputable section

/-!
# What the kernel's result arrays hold

Grid point `t` holds rows `256 t` to `256 t + 255`. The weights and their scales are whole at every point. So every row of a
result array is the specification's row of `x`.
-/

namespace Cert.KernelIdeal.Block

open Idealize.ShloMosaic Idealize.ShloMosaic.TcCoe Idealize.SL.Sem
open Cert.KernelIdeal Cert.KernelIdeal.Gen Cert.Mlp
open Idealize.ShloMosaic.Pipeline (Dat)

/-! ## Where a block lies -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)

variable (m : (ℓ : Loc nD τ sig) → Buf (Elt Ideal) ℓ) (c : Dev nD) (t : Fin cfg0.N)

/-- Row `r` of the block at point `t` is this row of the array. -/
def rowAt (t : Fin cfg0.N) (r : Fin 256) : Fin 2048 := ⟨t.val * 256 + r, by have h : t.val < 8 := t.isLt; omega⟩

theorem iblk0_apply (r : Fin 256) (k : Fin 4096) : iblk m c 0 t (ix2 r k) = V m c main_v0 (ix2 (rowAt t r) k) := by
  blk_simp [iblk]
  refine congrArg (V m c main_v0) ?_
  blk_ext [index0]
  all_goals rfl

theorem iblk1_eq : iblk m c 1 t = V m c main_arg1 := by
  funext j
  blk_simp [iblk]
  refine congrArg (V m c main_arg1) ?_
  blk_ext [index1]

theorem iblk2_eq : iblk m c 2 t = V m c main_v1 := by
  funext j
  blk_simp [iblk]
  refine congrArg (V m c main_v1) ?_
  blk_ext [index2]

theorem iblk3_eq : iblk m c 3 t = V m c main_arg3 := by
  funext j
  blk_simp [iblk]
  refine congrArg (V m c main_arg3) ?_
  blk_ext [index3]

theorem iblk4_eq : iblk m c 4 t = V m c main_v2 := by
  funext j
  blk_simp [iblk]
  refine congrArg (V m c main_v2) ?_
  blk_ext [index4]

/-! ## The arrays the region finds -/

theorem V_v0 : V m c main_v0 = shapeCast S2048x4096 (m ((c : Thread nD τ).loc main_arg0)) shapeCasts_S8x256x4096_S2048x4096 := by
  show StableHlo.after hostOps0 _ (Proc.devRef .tc main_v0) = _
  after_results
  rfl

theorem V_v1 : V m c main_v1 = shapeCast S1x5632 (m ((c : Thread nD τ).loc main_arg2)) shapeCasts_S5632_S1x5632 := by
  show StableHlo.after hostOps0 _ (Proc.devRef .tc main_v1) = _
  after_results
  rfl

theorem V_v2 : V m c main_v2 = shapeCast S1x4096 (m ((c : Thread nD τ).loc main_arg4)) shapeCasts_S4096_S1x4096 := by
  show StableHlo.after hostOps0 _ (Proc.devRef .tc main_v2) = _
  after_results
  rfl

/-! ## The arguments by coordinates -/

/-- `x` by row and column. -/
def argX : Fin 2048 → Fin 4096 → EReal := fun R k =>
  shapeCast S2048x4096 (m ((c : Thread nD τ).loc main_arg0)) shapeCasts_S8x256x4096_S2048x4096 (ix2 R k)
/-- The gate and up weights. -/
def argW : Fin 4096 → Fin 5632 → EReal := fun k j => m ((c : Thread nD τ).loc main_arg1) (ix2 k j)
/-- Their scales. -/
def argS : Fin 5632 → EReal := fun j =>
  shapeCast S1x5632 (m ((c : Thread nD τ).loc main_arg2)) shapeCasts_S5632_S1x5632 (ix2 0 j)
/-- The down weights. -/
def argD : Fin 2816 → Fin 4096 → EReal := fun k n => m ((c : Thread nD τ).loc main_arg3) (ix2 k n)
/-- Their scales. -/
def argE : Fin 4096 → EReal := fun n =>
  shapeCast S1x4096 (m ((c : Thread nD τ).loc main_arg4)) shapeCasts_S4096_S1x4096 (ix2 0 n)

theorem row_eq (r : Fin 256) : rowX (iblk m c 0 t) r = argX m c (rowAt t r) := by
  funext k
  unfold rowX argX
  rw [iblk0_apply, V_v0]

theorem mat_eq : matW (iblk m c 1 t) = argW m c := by
  funext k j
  unfold matW argW
  rw [iblk1_eq, V_main_arg1]

theorem vec_eq : vecS (iblk m c 2 t) = argS m c := by
  funext j
  unfold vecS argS
  rw [iblk2_eq, V_v1]

theorem down_eq (k : Fin 2816) (n : Fin 4096) : iblk m c 3 t (ix2 k n) = argD m c k n := by
  unfold argD
  rw [iblk3_eq, V_main_arg3]

theorem downScale_eq (n : Fin 4096) : iblk m c 4 t (ix2 0 n) = argE m c n := by
  unfold argE
  rw [iblk4_eq, V_v2]

/-! ## The arrays after the run -/

theorem final_out : (dats m 0 c).arrAt 5 cfg0.N
    = fun i : S2048x4096.Idx => out (argX m c (i 0)) (argW m c) (argS m c) (argD m c) (argE m c) (i 1) := by
  refine (dats m 0 c).arrAt_eq_of_covers 5 _ (by decide +kernel) fun t hf y => ?_
  obtain ⟨r, n, rfl⟩ : ∃ (r : Fin 256) (n : Fin 4096), y = ix2 r n := ⟨y 0, y 1, eq_ix2 y⟩
  have hi : ((cfg0.win 5).blk t).view.emb (ix2 r n) = (ix2 (rowAt t r) n : S2048x4096.Idx) := by
    blk_ext [index5]
    all_goals rfl
  rw [hi]
  blk_simp
  rw [after0_5, point_out]
  show DOWN _ _ _ (ix2 r n) = out (argX m c (rowAt t r)) (argW m c) (argS m c) (argD m c) (argE m c) n
  unfold DOWN HV out
  show (∑ k : Fin 2816, hval (rowX (iblk m c 0 t) r) (matW (iblk m c 1 t)) (vecS (iblk m c 2 t)) k
    * iblk m c 3 t (ix2 k n)) * iblk m c 4 t (ix2 0 n) = _
  simp only [row_eq, mat_eq, vec_eq, down_eq, downScale_eq]

theorem final_xcodes : (dats m 0 c).arrAt 6 cfg0.N
    = fun i : S2048x4096.Idx => xcode (argX m c (i 0)) (i 1) := by
  refine (dats m 0 c).arrAt_eq_of_covers 6 _ (by decide +kernel) fun t hf y => ?_
  obtain ⟨r, n, rfl⟩ : ∃ (r : Fin 256) (n : Fin 4096), y = ix2 r n := ⟨y 0, y 1, eq_ix2 y⟩
  have hi : ((cfg0.win 6).blk t).view.emb (ix2 r n) = (ix2 (rowAt t r) n : S2048x4096.Idx) := by
    blk_ext [index6]
    all_goals rfl
  rw [hi]
  blk_simp
  rw [after0_6, point_xcodes]
  refine (codesX_apply _ r n).trans ?_
  exact congrArg (fun X => xcode X n) (row_eq m c t r)

theorem final_xscale : (dats m 0 c).arrAt 7 cfg0.N
    = fun i : S2048x1.Idx => scale (amax (argX m c (i 0))) := by
  refine (dats m 0 c).arrAt_eq_of_covers 7 _ (by decide +kernel) fun t hf y => ?_
  obtain ⟨r, n, rfl⟩ : ∃ (r : Fin 256) (n : Fin 1), y = ix2 r n := ⟨y 0, y 1, eq_ix2 y⟩
  obtain rfl : n = 0 := Subsingleton.elim _ _
  have hi : ((cfg0.win 7).blk t).view.emb (ix2 r 0) = (ix2 (rowAt t r) 0 : S2048x1.Idx) := by
    blk_ext [index7]
    all_goals rfl
  rw [hi]
  blk_simp
  rw [after0_7, point_xscale]
  refine (scaleVec_apply _ r (amaxX_nonneg _ r)).trans ?_
  rw [amaxX_apply]
  exact congrArg (fun X => scale (amax X)) (row_eq m c t r)

theorem final_hcodes : (dats m 0 c).arrAt 8 cfg0.N
    = fun i : S2048x2816.Idx => hcode (argX m c (i 0)) (argW m c) (argS m c) (i 1) := by
  refine (dats m 0 c).arrAt_eq_of_covers 8 _ (by decide +kernel) fun t hf y => ?_
  obtain ⟨r, n, rfl⟩ : ∃ (r : Fin 256) (n : Fin 2816), y = ix2 r n := ⟨y 0, y 1, eq_ix2 y⟩
  have hi : ((cfg0.win 8).blk t).view.emb (ix2 r n) = (ix2 (rowAt t r) n : S2048x2816.Idx) := by
    blk_ext [index8]
    all_goals rfl
  rw [hi]
  blk_simp
  rw [after0_8, point_hcodes]
  show hcode (rowX (iblk m c 0 t) r) (matW (iblk m c 1 t)) (vecS (iblk m c 2 t)) n
    = hcode (argX m c (rowAt t r)) (argW m c) (argS m c) n
  rw [row_eq, mat_eq, vec_eq]

theorem final_hscale : (dats m 0 c).arrAt 9 cfg0.N
    = fun i : S2048x22.Idx => hscale (argX m c (i 0)) (argW m c) (argS m c) (i 1) := by
  refine (dats m 0 c).arrAt_eq_of_covers 9 _ (by decide +kernel) fun t hf y => ?_
  obtain ⟨r, n, rfl⟩ : ∃ (r : Fin 256) (n : Fin 22), y = ix2 r n := ⟨y 0, y 1, eq_ix2 y⟩
  have hi : ((cfg0.win 9).blk t).view.emb (ix2 r n) = (ix2 (rowAt t r) n : S2048x22.Idx) := by
    blk_ext [index9]
    all_goals rfl
  rw [hi]
  blk_simp
  rw [after0_9, point_hscale]
  show hscale (rowX (iblk m c 0 t) r) (matW (iblk m c 1 t)) (vecS (iblk m c 2 t)) n
    = hscale (argX m c (rowAt t r)) (argW m c) (argS m c) n
  rw [row_eq, mat_eq, vec_eq]

end Cert.KernelIdeal.Block
-- ==== Proof.RefValue.lean ====
module

public import proofs.«01_k».proof.Proof.Scale
public import proofs.«01_k».proof.Proof.Gen.ReferenceIdeal.Skeleton
public import Idealize.ShloMosaic.Lib.Pointwise

@[expose] public section
noncomputable section

/-!
# What the reference computes, at an index

The reference's quantiser works on an array of groups: the maximum of each group, its exponent, the codes and the scales.
Read at an index these are the specification's.
-/

namespace Cert.ReferenceIdeal.Value

open Idealize.ShloMosaic Idealize.ShloMosaic.TcCoe Idealize.SL.Sem
open Cert.ReferenceIdeal Cert.ReferenceIdeal.Gen Cert.Mlp

/-! ## The exponent -/

/-- The exponent of each entry of an array of maxima. -/
def expoVec {S : Shape} (a : FVec Ideal S .f32) : FVec Ideal S .f32 :=
  select (cmpf .olt (mulf (minimumf a (broadcast S (Scalar.ofBits .f32 0x7F7FFFFF#32))) (broadcast S (Scalar.ofBits .f32 0x3B124925#32)))
      (broadcast S (Scalar.ofBits .f32 0x00800000#32)))
    (broadcast S (Scalar.ofBits .f32 0x00000000#32))
    (addf (floor (divf (log (mulf (minimumf a (broadcast S (Scalar.ofBits .f32 0x7F7FFFFF#32)))
        (broadcast S (Scalar.ofBits .f32 0x3B124925#32))))
      (log (broadcast S (Scalar.ofBits .f32 0x40000000#32))))) (broadcast S (Scalar.ofBits .f32 0x3F800000#32)))

theorem expoVec_apply {S : Shape} (a : FVec Ideal S .f32) (i : S.Idx) : expoVec a i = expo (a i) := by
  pointwise [expoVec]
  rfl

/-! ## The codes -/

/-- Each entry scaled by its group's factor, then clipped. -/
def codeVec {S T : Shape} (x : FVec Ideal S .f32) (e : FVec Ideal T .f32) (h : T.Broadcasts S) : FVec Ideal S .fp8e4m3 :=
  truncf .fp8e4m3 (minimumf (broadcast S (Scalar.ofBits .f32 0x43E00000#32))
    (maximumf (broadcast S (Scalar.ofBits .f32 0xC3E00000#32))
      (mulf x (broadcastTo S (exp2 (subf (broadcast T (Scalar.ofBits .f32 0x00000000#32)) e)) h)))) bitsLt_fp8e4m3_f32

theorem codeVec_apply {S T : Shape} (x : FVec Ideal S .f32) (e : FVec Ideal T .f32) (h : T.Broadcasts S) (i : S.Idx) :
    codeVec x e h i
      = min top (max bot (x i * broadcastTo S (exp2 (subf (broadcast T (Scalar.ofBits .f32 0x00000000#32)) e)) h i)) := rfl

theorem factor_apply {T : Shape} (e : FVec Ideal T .f32) (i : T.Idx) :
    exp2 (subf (broadcast T (Scalar.ofBits .f32 0x00000000#32)) e) i = Ideal.exp2 (0 - e i) := by
  show Ideal.exp2 (Ideal.ofBits .f32 0x00000000#32 - e i) = _
  rw [show Ideal.ofBits .f32 0x00000000#32 = 0 by simp [Ideal.ofBits, Ideal.ieee]]

theorem exp2_apply {T : Shape} (e : FVec Ideal T .f32) (i : T.Idx) : exp2 e i = Ideal.exp2 (e i) := rfl

/-! ## The reshapes and broadcasts of the quantiser, read at an index -/

theorem spreadX (u : FVec Ideal S2048x1x1 .f32) (R : Fin 2048) (k : Fin 4096) :
    broadcastTo S2048x1x4096 u broadcasts_S2048x1x1_S2048x1x4096 (ix3 R 0 k) = u (ix3 R 0 0) := by
  pointwise

theorem flatX (u : FVec Ideal S2048x1x4096 .fp8e4m3) (R : Fin 2048) (k : Fin 4096) :
    shapeCast S2048x4096 u shapeCasts_S2048x1x4096_S2048x4096 (ix2 R k) = u (ix3 R 0 k) := by
  pointwise

theorem colX (u : FVec Ideal S2048x1x1 .f32) (R : Fin 2048) :
    shapeCast S2048x1 u shapeCasts_S2048x1x1_S2048x1 (ix2 R 0) = u (ix3 R 0 0) := by
  pointwise

theorem spreadH {φ : FTy} (u : FVec Ideal S2048x22x1 φ) (R : Fin 2048) (g : Fin 22) (l : Fin 128) :
    broadcastTo S2048x22x128 u broadcasts_S2048x22x1_S2048x22x128 (ix3 R g l) = u (ix3 R g 0) := by
  pointwise

theorem flatH {φ : FTy} (u : FVec Ideal S2048x22x128 φ) (R : Fin 2048) (j : Fin 2816) :
    shapeCast S2048x2816 u shapeCasts_S2048x22x128_S2048x2816 (ix2 R j) = u (ix3 R (grp j) ⟨j % 128, by omega⟩) := by
  pointwise
  rfl

theorem splitH {φ : FTy} (u : FVec Ideal S2048x2816 φ) (R : Fin 2048) (g : Fin 22) (l : Fin 128) :
    shapeCast S2048x22x128 u shapeCasts_S2048x2816_S2048x22x128 (ix3 R g l) = u (ix2 R ⟨128 * g + l, by omega⟩) := by
  pointwise
  refine congrArg (fun j => u (ix2 R j)) (Fin.ext ?_)
  show (g : ℕ) * 128 + l = 128 * g + l
  omega

theorem colH (u : FVec Ideal S2048x22x1 .f32) (R : Fin 2048) (g : Fin 22) :
    shapeCast S2048x22 u shapeCasts_S2048x22x1_S2048x22 (ix2 R g) = u (ix3 R g 0) := by
  pointwise

theorem uncolH {φ : FTy} (u : FVec Ideal S2048x22 φ) (R : Fin 2048) (g : Fin 22) :
    shapeCast S2048x22x1 u shapeCasts_S2048x22_S2048x22x1 (ix3 R g 0) = u (ix2 R g) := by
  pointwise

/-- A column is its place in its group. -/
theorem group_of (j : Fin 2816) : (⟨128 * (grp j) + (⟨j % 128, by omega⟩ : Fin 128), by unfold grp; simp only; omega⟩ : Fin 2816) = j :=
  Fin.ext (show 128 * (j.val / 128) + j.val % 128 = j.val by omega)

/-! ## The rows of `x` -/

section
variable (v0 : FVec Ideal S2048x4096 .bf16)

theorem x_apply (R : Fin 2048) (k : Fin 4096) : k0_pay2 (F := Ideal) v0 (ix3 R 0 k) = v0 (ix2 R k) := by
  pointwise [k0_pay2]

/-- The maxima of the rows of `x`. -/
def maxX : FVec Ideal S2048x1x1 .f32 :=
  shapeCast S2048x1x1 (multiReduction .maximumf [2] S2048x1 (absf (k0_pay2 (F := Ideal) v0)) 0xFF800000#32 reduces_S2048x1x4096_S2048x1
    (.inl rfl) rfl) shapeCasts_S2048x1_S2048x1x1

theorem liftX (R : Fin 2048) (k : Fin 4096) : (reduces_S2048x1x4096_S2048x1).lift (ix2 R 0) k = ix3 R 0 k := by
  funext c
  apply Fin.ext
  fin_cases c <;> rfl

theorem absf_apply {S : Shape} (x : FVec Ideal S .f32) (i : S.Idx) : absf x i = max (x i) (-x i) := rfl

theorem maxX_apply (R : Fin 2048) : maxX v0 (ix3 R 0 0) = amax fun k => v0 (ix2 R k) := by
  have h : maxX v0 (ix3 R 0 0) = multiReduction .maximumf [2] S2048x1 (absf (k0_pay2 (F := Ideal) v0)) 0xFF800000#32
      reduces_S2048x1x4096_S2048x1 (.inl rfl) rfl (ix2 R 0) := by
    unfold maxX
    generalize multiReduction .maximumf [2] S2048x1 (absf (k0_pay2 (F := Ideal) v0)) 0xFF800000#32 reduces_S2048x1x4096_S2048x1
      (.inl rfl) rfl = v
    pointwise
  rw [h]
  refine (Ideal.multiReduction_maximumf_single _ _ _ _ _ _).trans ?_
  unfold amax
  refine congrArg (fun f => Finset.univ.fold max (Ideal.ofBits .f32 0xFF800000#32) f) ?_
  funext k
  have e : k0_pay2 (F := Ideal) v0 ((reduces_S2048x1x4096_S2048x1).lift (ix2 R 0) k) = v0 (ix2 R k) :=
    (congrArg (k0_pay2 (F := Ideal) v0) (liftX R k)).trans (x_apply v0 R k)
  exact (absf_apply _ _).trans (congrArg (fun y => max y (-y)) e)

theorem expoX (R : Fin 2048) : k0_pay3 (F := Ideal) v0 (ix3 R 0 0) = expo (amax fun k => v0 (ix2 R k)) := by
  rw [← maxX_apply, ← expoVec_apply]
  rfl

theorem xcodes_apply (R : Fin 2048) (k : Fin 4096) :
    k0_pay4 (F := Ideal) v0 (ix2 R k) = xcode (fun k => v0 (ix2 R k)) k := by
  have h : k0_pay4 (F := Ideal) v0 = shapeCast S2048x4096
      (codeVec (k0_pay2 (F := Ideal) v0) (k0_pay3 (F := Ideal) v0) broadcasts_S2048x1x1_S2048x1x4096)
      shapeCasts_S2048x1x4096_S2048x4096 := rfl
  rw [h, flatX, codeVec_apply, spreadX, factor_apply, expoX, x_apply]
  rfl

theorem xscale_apply (R : Fin 2048) : k0_pay5 (F := Ideal) v0 (ix2 R 0) = scale (amax fun k => v0 (ix2 R k)) := by
  have h : k0_pay5 (F := Ideal) v0 = shapeCast S2048x1 (exp2 (k0_pay3 (F := Ideal) v0)) shapeCasts_S2048x1x1_S2048x1 := rfl
  rw [h, colX, exp2_apply, expoX]
  rfl

/-- A row of codes times the weights, with both scales. -/
theorem product_apply (c : FVec Ideal S2048x4096 .fp8e4m3) (q : FVec Ideal S2048x1 .f32) (w : FVec Ideal S4096x5632 .fp8e4m3)
    (s : FVec Ideal S1x5632 .f32) (R : Fin 2048) (j : Fin 5632) :
    mulf (mulf (matmul dot_S2048x4096_S4096x5632_S2048x5632_1_0_0_1_n_n none c w (constant S2048x5632 .f32 0x00000000#32))
        (broadcastTo S2048x5632 q broadcasts_S2048x1_S2048x5632))
      (broadcastTo S2048x5632 (shapeCast S1x5632 s shapeCasts_S1x5632_S1x5632) broadcasts_S1x5632_S2048x5632) (ix2 R j)
      = (∑ k : Fin 4096, c (ix2 R k) * w (ix2 k j)) * q (ix2 R 0) * s (ix2 0 j) := by
  pointwise

/-- The gate and up product. -/
theorem gateUp_apply (w : FVec Ideal S4096x5632 .fp8e4m3) (s : FVec Ideal S1x5632 .f32) (R : Fin 2048) (j : Fin 5632) :
    k0_pay6 (F := Ideal) v0 w s (ix2 R j)
      = gateUp (fun k => v0 (ix2 R k)) (fun k j => w (ix2 k j)) (fun j => s (ix2 0 j)) j := by
  refine (product_apply (k0_pay4 (F := Ideal) v0) (k0_pay5 (F := Ideal) v0) w s R j).trans ?_
  rw [xscale_apply]
  simp only [xcodes_apply]
  rfl

end

/-! ## The activation -/

section
variable (v : FVec Ideal S2048x5632 .f32)

/-- The gated activation of column `j`, from the gate and up product. -/
def actOf (R : Fin 2048) (j : Fin 2816) : EReal :=
  v (ix2 R ⟨j, by omega⟩) * Ideal.logistic (v (ix2 R ⟨j, by omega⟩)) * v (ix2 R ⟨2816 + j, by omega⟩)

theorem leftH (R : Fin 2048) (j : Fin 2816) :
    extractStridedSlice S2048x2816 ![0, 0] v slices_S2048x5632_o0_0_S2048x2816 (ix2 R j) = v (ix2 R ⟨j, by omega⟩) := by
  pointwise

theorem rightH (R : Fin 2048) (j : Fin 2816) :
    extractStridedSlice S2048x2816 ![0, 2816] v slices_S2048x5632_o0_2816_S2048x2816 (ix2 R j) = v (ix2 R ⟨2816 + j, by omega⟩) := by
  pointwise

theorem h_apply (R : Fin 2048) (g : Fin 22) (l : Fin 128) :
    k0_pay7 (F := Ideal) v (ix3 R g l) = actOf v R ⟨128 * g + l, by omega⟩ := by
  have h : k0_pay7 (F := Ideal) v = shapeCast S2048x22x128
      (mulf (mulf (extractStridedSlice S2048x2816 ![0, 0] v slices_S2048x5632_o0_0_S2048x2816)
          (logistic (extractStridedSlice S2048x2816 ![0, 0] v slices_S2048x5632_o0_0_S2048x2816)))
        (extractStridedSlice S2048x2816 ![0, 2816] v slices_S2048x5632_o0_2816_S2048x2816))
      shapeCasts_S2048x2816_S2048x22x128 := rfl
  rw [h, splitH]
  unfold actOf
  rw [← leftH v R ⟨128 * g + l, by omega⟩, ← rightH v R ⟨128 * g + l, by omega⟩]
  rfl

/-- The maxima of the groups. -/
def maxH : FVec Ideal S2048x22x1 .f32 :=
  shapeCast S2048x22x1 (multiReduction .maximumf [2] S2048x22 (absf (k0_pay7 (F := Ideal) v)) 0xFF800000#32
    reduces_S2048x22x128_S2048x22 (.inl rfl) rfl) shapeCasts_S2048x22_S2048x22x1

theorem liftH (R : Fin 2048) (g : Fin 22) (l : Fin 128) : (reduces_S2048x22x128_S2048x22).lift (ix2 R g) l = ix3 R g l := by
  funext c
  apply Fin.ext
  fin_cases c <;> rfl

theorem maxH_apply (R : Fin 2048) (g : Fin 22) :
    maxH v (ix3 R g 0) = amax fun l : Fin 128 => actOf v R ⟨128 * g + l, by omega⟩ := by
  have h : maxH v (ix3 R g 0) = multiReduction .maximumf [2] S2048x22 (absf (k0_pay7 (F := Ideal) v)) 0xFF800000#32
      reduces_S2048x22x128_S2048x22 (.inl rfl) rfl (ix2 R g) := by
    unfold maxH
    generalize multiReduction .maximumf [2] S2048x22 (absf (k0_pay7 (F := Ideal) v)) 0xFF800000#32
      reduces_S2048x22x128_S2048x22 (.inl rfl) rfl = w
    pointwise
  rw [h]
  refine (Ideal.multiReduction_maximumf_single _ _ _ _ _ _).trans ?_
  unfold amax
  refine congrArg (fun f => Finset.univ.fold max (Ideal.ofBits .f32 0xFF800000#32) f) ?_
  refine funext fun (l : Fin 128) => ?_
  have e : k0_pay7 (F := Ideal) v ((reduces_S2048x22x128_S2048x22).lift (ix2 R g) l) = actOf v R ⟨128 * g + l, by omega⟩ :=
    (congrArg (k0_pay7 (F := Ideal) v) (liftH R g l)).trans (h_apply v R g l)
  exact (absf_apply _ _).trans (congrArg (fun y => max y (-y)) e)

theorem expoH (R : Fin 2048) (g : Fin 22) :
    k0_pay8 (F := Ideal) v (ix3 R g 0) = expo (amax fun l : Fin 128 => actOf v R ⟨128 * g + l, by omega⟩) := by
  rw [← maxH_apply, ← expoVec_apply]
  rfl

theorem hcodes_apply (R : Fin 2048) (j : Fin 2816) :
    k0_pay9 (F := Ideal) v (ix2 R j)
      = code (amax fun l : Fin 128 => actOf v R ⟨128 * grp j + l, by omega⟩) (actOf v R j) := by
  have h : k0_pay9 (F := Ideal) v = shapeCast S2048x2816
      (codeVec (k0_pay7 (F := Ideal) v) (k0_pay8 (F := Ideal) v) broadcasts_S2048x22x1_S2048x22x128)
      shapeCasts_S2048x22x128_S2048x2816 := rfl
  rw [h, flatH, codeVec_apply, spreadH, factor_apply, expoH, h_apply, group_of]
  rfl

theorem hscale_apply (R : Fin 2048) (g : Fin 22) :
    k0_pay10 (F := Ideal) v (ix2 R g) = scale (amax fun l : Fin 128 => actOf v R ⟨128 * g + l, by omega⟩) := by
  have h : k0_pay10 (F := Ideal) v = shapeCast S2048x22 (exp2 (k0_pay8 (F := Ideal) v)) shapeCasts_S2048x22x1_S2048x22 := rfl
  rw [h, colH, exp2_apply, expoH]
  rfl

/-- The activation back from codes and scales. -/
def backH (c : FVec Ideal S2048x2816 .fp8e4m3) (q : FVec Ideal S2048x22 .f32) : FVec Ideal S2048x2816 .bf16 :=
  shapeCast S2048x2816 (mulf (shapeCast S2048x22x128 (extf .bf16 c bitsLt_fp8e4m3_bf16) shapeCasts_S2048x2816_S2048x22x128)
    (broadcastTo S2048x22x128 (shapeCast S2048x22x1 (truncf .bf16 q bitsLt_bf16_f32) shapeCasts_S2048x22_S2048x22x1)
      broadcasts_S2048x22x1_S2048x22x128)) shapeCasts_S2048x22x128_S2048x2816

theorem backH_apply (c : FVec Ideal S2048x2816 .fp8e4m3) (q : FVec Ideal S2048x22 .f32) (R : Fin 2048) (j : Fin 2816) :
    backH c q (ix2 R j) = c (ix2 R j) * q (ix2 R (grp j)) := by
  refine (flatH _ R j).trans ?_
  show shapeCast S2048x22x128 (extf .bf16 c bitsLt_fp8e4m3_bf16) shapeCasts_S2048x2816_S2048x22x128
      (ix3 R (grp j) ⟨j % 128, by omega⟩)
    * broadcastTo S2048x22x128 (shapeCast S2048x22x1 (truncf .bf16 q bitsLt_bf16_f32) shapeCasts_S2048x22_S2048x22x1)
      broadcasts_S2048x22x1_S2048x22x128 (ix3 R (grp j) ⟨j % 128, by omega⟩) = _
  rw [splitH, spreadH, uncolH, group_of]
  rfl

/-- The down product, with its scales. -/
theorem downOf (b : FVec Ideal S2048x2816 .bf16) (d : FVec Ideal S2816x4096 .fp8e4m3) (e : FVec Ideal S1x4096 .f32)
    (R : Fin 2048) (n : Fin 4096) :
    truncf .bf16 (mulf (matmul dot_S2048x2816_S2816x4096_S2048x4096_1_0_0_1_n_n none b (extf .bf16 d bitsLt_fp8e4m3_bf16)
        (constant S2048x4096 .f32 0x00000000#32))
      (broadcastTo S2048x4096 (shapeCast S1x4096 e shapeCasts_S1x4096_S1x4096) broadcasts_S1x4096_S2048x4096))
        bitsLt_bf16_f32 (ix2 R n)
      = (∑ j : Fin 2816, b (ix2 R j) * d (ix2 j n)) * e (ix2 0 n) := by
  pointwise

theorem down_apply (d : FVec Ideal S2816x4096 .fp8e4m3) (e : FVec Ideal S1x4096 .f32) (R : Fin 2048) (n : Fin 4096) :
    k0_pay1 (F := Ideal) (k0_pay11 (F := Ideal) v d) e (ix2 R n)
      = (∑ j : Fin 2816, k0_pay9 (F := Ideal) v (ix2 R j) * k0_pay10 (F := Ideal) v (ix2 R (grp j)) * d (ix2 j n)) * e (ix2 0 n) := by
  refine (downOf (backH (k0_pay9 (F := Ideal) v) (k0_pay10 (F := Ideal) v)) d e R n).trans ?_
  simp only [backH_apply]

end

/-! ## The five results -/

section
variable (x : FVec Ideal S2048x4096 .bf16) (w : FVec Ideal S4096x5632 .fp8e4m3) (s : FVec Ideal S1x5632 .f32)
  (d : FVec Ideal S2816x4096 .fp8e4m3) (e : FVec Ideal S1x4096 .f32)

theorem act_eq (R : Fin 2048) (j : Fin 2816) :
    actOf (k0_pay6 (F := Ideal) x w s) R j = act (fun k => x (ix2 R k)) (fun k j => w (ix2 k j)) (fun j => s (ix2 0 j)) j := by
  unfold actOf
  rw [gateUp_apply, gateUp_apply]
  rfl

theorem ref_hcodes (R : Fin 2048) (j : Fin 2816) :
    k0_pay9 (F := Ideal) (k0_pay6 (F := Ideal) x w s) (ix2 R j)
      = hcode (fun k => x (ix2 R k)) (fun k j => w (ix2 k j)) (fun j => s (ix2 0 j)) j := by
  rw [hcodes_apply]
  simp only [act_eq]
  rfl

theorem ref_hscale (R : Fin 2048) (g : Fin 22) :
    k0_pay10 (F := Ideal) (k0_pay6 (F := Ideal) x w s) (ix2 R g)
      = hscale (fun k => x (ix2 R k)) (fun k j => w (ix2 k j)) (fun j => s (ix2 0 j)) g := by
  rw [hscale_apply]
  simp only [act_eq]
  rfl

theorem ref_out (R : Fin 2048) (n : Fin 4096) :
    k0_pay1 (F := Ideal) (k0_pay11 (F := Ideal) (k0_pay6 (F := Ideal) x w s) d) e (ix2 R n)
      = out (fun k => x (ix2 R k)) (fun k j => w (ix2 k j)) (fun j => s (ix2 0 j)) (fun j n => d (ix2 j n))
          (fun n => e (ix2 0 n)) n := by
  rw [down_apply]
  simp only [ref_hcodes, ref_hscale]
  rfl

end

end Cert.ReferenceIdeal.Value
-- ==== Proof.RefRun.lean ====
module

public import proofs.«01_k».proof.Proof.RefValue
public import proofs.«01_k».proof.Proof.Gen.ReferenceIdeal.Frame
public import Idealize.ShloMosaic.Lib.Pipeline.Value
public import Idealize.ShloMosaic.Lib.Pipeline.ValueKit

@[expose] public section
noncomputable section

/-!
# What the reference's result arrays hold

The reference is one call without a grid, so every block is a whole array. After the run each result array is the
specification of the arguments.
-/

namespace Cert.ReferenceIdeal.Value

open Idealize.ShloMosaic Idealize.ShloMosaic.TcCoe Idealize.SL.Sem
open Cert.ReferenceIdeal Cert.ReferenceIdeal.Gen Cert.Mlp
open Idealize.ShloMosaic.Pipeline (Dat)

/-! ## What the one point leaves -/

theorem corner : (![0, 0] : Fin 2 → Nat) = fun _ => 0 := funext fun a => by fin_cases a <;> rfl

section
variable (x0 : Vec Ideal S2048x4096 .bf16) (x1 : Vec Ideal S4096x5632 .fp8e4m3) (x2 : Vec Ideal S1x5632 .f32)
  (x3 : Vec Ideal S2816x4096 .fp8e4m3) (x4 : Vec Ideal S1x4096 .f32)

theorem product_eq : k0_pay12 x0 x1 x2 x3 x4 = k0_pay6 x0 x1 x2 := by
  unfold k0_pay12
  rw [View.ld_unit_zero corner, View.ld_unit_zero corner, View.ld_unit_zero corner]

theorem left_out : out0_5 x0 x1 x2 x3 x4 = k0_pay1 (k0_pay11 (k0_pay6 x0 x1 x2) x3) x4 := by
  unfold out0_5
  rw [View.canon_unit_zero corner, product_eq, View.ld_unit_zero corner, View.ld_unit_zero corner]

theorem left_xcodes : out0_6 x0 x1 x2 x3 x4 = k0_pay4 x0 := by
  unfold out0_6
  rw [View.canon_unit_zero corner, View.ld_unit_zero corner]

theorem left_xscale : out0_7 x0 x1 x2 x3 x4 = k0_pay5 x0 := by
  unfold out0_7
  rw [View.canon_unit_zero corner, View.ld_unit_zero corner]

theorem left_hcodes : out0_8 x0 x1 x2 x3 x4 = k0_pay9 (k0_pay6 x0 x1 x2) := by
  unfold out0_8
  rw [View.canon_unit_zero corner, product_eq]

theorem left_hscale : out0_9 x0 x1 x2 x3 x4 = k0_pay10 (k0_pay6 x0 x1 x2) := by
  unfold out0_9
  rw [View.canon_unit_zero corner, product_eq]

end

/-! ## The arrays the point reads -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)

variable (m : (ℓ : Loc nD τ sig) → Buf (Elt Ideal) ℓ) (ρ : Dev nD → PrngReg) (c : Dev nD) (t : Fin cfg0.N)

theorem V_v0 : V m c main_v0 = shapeCast S2048x4096 (m ((c : Thread nD τ).loc main_arg0)) shapeCasts_S8x256x4096_S2048x4096 := by
  show StableHlo.after hostOps0 _ (Proc.devRef .tc main_v0) = _
  after_results
  rfl

theorem V_v1 : V m c main_v1 = shapeCast S1x5632 (m ((c : Thread nD τ).loc main_arg2)) shapeCasts_S5632_S1x5632 := by
  show StableHlo.after hostOps0 _ (Proc.devRef .tc main_v1) = _
  after_results
  rfl

theorem V_v2 : V m c main_v2 = shapeCast S1x4096 (m ((c : Thread nD τ).loc main_arg4)) shapeCasts_S4096_S1x4096 := by
  show StableHlo.after hostOps0 _ (Proc.devRef .tc main_v2) = _
  after_results
  rfl

theorem iblk0_eq : iblk m c 0 t = shapeCast S2048x4096 (m ((c : Thread nD τ).loc main_arg0)) shapeCasts_S8x256x4096_S2048x4096 := by
  rw [← V_v0]
  funext j
  blk_simp [iblk]
  refine congrArg (V m c main_v0) ?_
  blk_ext [index0]

theorem iblk1_eq : iblk m c 1 t = m ((c : Thread nD τ).loc main_arg1) := by
  rw [← V_main_arg1 m c]
  funext j
  blk_simp [iblk]
  refine congrArg (V m c main_arg1) ?_
  blk_ext [index1]

theorem iblk2_eq : iblk m c 2 t = shapeCast S1x5632 (m ((c : Thread nD τ).loc main_arg2)) shapeCasts_S5632_S1x5632 := by
  rw [← V_v1]
  funext j
  blk_simp [iblk]
  refine congrArg (V m c main_v1) ?_
  blk_ext [index2]

theorem iblk3_eq : iblk m c 3 t = m ((c : Thread nD τ).loc main_arg3) := by
  rw [← V_main_arg3 m c]
  funext j
  blk_simp [iblk]
  refine congrArg (V m c main_arg3) ?_
  blk_ext [index3]

theorem iblk4_eq : iblk m c 4 t = shapeCast S1x4096 (m ((c : Thread nD τ).loc main_arg4)) shapeCasts_S4096_S1x4096 := by
  rw [← V_v2]
  funext j
  blk_simp [iblk]
  refine congrArg (V m c main_v2) ?_
  blk_ext [index4]

/-! ## The arguments by coordinates -/

/-- `x` by row and column. -/
def argX : Fin 2048 → Fin 4096 → EReal := fun R k =>
  shapeCast S2048x4096 (m ((c : Thread nD τ).loc main_arg0)) shapeCasts_S8x256x4096_S2048x4096 (ix2 R k)
/-- The gate and up weights. -/
def argW : Fin 4096 → Fin 5632 → EReal := fun k j => m ((c : Thread nD τ).loc main_arg1) (ix2 k j)
/-- Their scales. -/
def argS : Fin 5632 → EReal := fun j =>
  shapeCast S1x5632 (m ((c : Thread nD τ).loc main_arg2)) shapeCasts_S5632_S1x5632 (ix2 0 j)
/-- The down weights. -/
def argD : Fin 2816 → Fin 4096 → EReal := fun k n => m ((c : Thread nD τ).loc main_arg3) (ix2 k n)
/-- Their scales. -/
def argE : Fin 4096 → EReal := fun n =>
  shapeCast S1x4096 (m ((c : Thread nD τ).loc main_arg4)) shapeCasts_S4096_S1x4096 (ix2 0 n)

/-! ## The arrays after the run -/

theorem final_out : (dats m 0 c).arrAt 5 cfg0.N
    = fun i : S2048x4096.Idx => out (argX m c (i 0)) (argW m c) (argS m c) (argD m c) (argE m c) (i 1) := by
  refine (dats m 0 c).arrAt_eq_of_covers 5 _ (by decide +kernel) fun t hf y => ?_
  obtain ⟨r, n, rfl⟩ : ∃ (r : Fin 2048) (n : Fin 4096), y = ix2 r n := ⟨y 0, y 1, eq_ix2 y⟩
  have hi : ((cfg0.win 5).blk t).view.emb (ix2 r n) = (ix2 r n : S2048x4096.Idx) := by
    blk_ext [index5]
  rw [hi]
  blk_simp
  rw [after0_5, left_out]
  refine (ref_out _ _ _ _ _ r n).trans ?_
  rw [iblk0_eq, iblk1_eq, iblk2_eq, iblk3_eq, iblk4_eq]
  rfl

theorem final_xcodes : (dats m 0 c).arrAt 6 cfg0.N
    = fun i : S2048x4096.Idx => xcode (argX m c (i 0)) (i 1) := by
  refine (dats m 0 c).arrAt_eq_of_covers 6 _ (by decide +kernel) fun t hf y => ?_
  obtain ⟨r, n, rfl⟩ : ∃ (r : Fin 2048) (n : Fin 4096), y = ix2 r n := ⟨y 0, y 1, eq_ix2 y⟩
  have hi : ((cfg0.win 6).blk t).view.emb (ix2 r n) = (ix2 r n : S2048x4096.Idx) := by
    blk_ext [index6]
  rw [hi]
  blk_simp
  rw [after0_6, left_xcodes]
  refine (xcodes_apply _ r n).trans ?_
  rw [iblk0_eq]
  rfl

theorem final_xscale : (dats m 0 c).arrAt 7 cfg0.N
    = fun i : S2048x1.Idx => scale (amax (argX m c (i 0))) := by
  refine (dats m 0 c).arrAt_eq_of_covers 7 _ (by decide +kernel) fun t hf y => ?_
  obtain ⟨r, n, rfl⟩ : ∃ (r : Fin 2048) (n : Fin 1), y = ix2 r n := ⟨y 0, y 1, eq_ix2 y⟩
  obtain rfl : n = 0 := Subsingleton.elim _ _
  have hi : ((cfg0.win 7).blk t).view.emb (ix2 r 0) = (ix2 r 0 : S2048x1.Idx) := by
    blk_ext [index7]
  rw [hi]
  blk_simp
  rw [after0_7, left_xscale]
  refine (xscale_apply _ r).trans ?_
  rw [iblk0_eq]
  rfl

theorem final_hcodes : (dats m 0 c).arrAt 8 cfg0.N
    = fun i : S2048x2816.Idx => hcode (argX m c (i 0)) (argW m c) (argS m c) (i 1) := by
  refine (dats m 0 c).arrAt_eq_of_covers 8 _ (by decide +kernel) fun t hf y => ?_
  obtain ⟨r, n, rfl⟩ : ∃ (r : Fin 2048) (n : Fin 2816), y = ix2 r n := ⟨y 0, y 1, eq_ix2 y⟩
  have hi : ((cfg0.win 8).blk t).view.emb (ix2 r n) = (ix2 r n : S2048x2816.Idx) := by
    blk_ext [index8]
  rw [hi]
  blk_simp
  rw [after0_8, left_hcodes]
  refine (ref_hcodes _ _ _ r n).trans ?_
  rw [iblk0_eq, iblk1_eq, iblk2_eq]
  rfl

theorem final_hscale : (dats m 0 c).arrAt 9 cfg0.N
    = fun i : S2048x22.Idx => hscale (argX m c (i 0)) (argW m c) (argS m c) (i 1) := by
  refine (dats m 0 c).arrAt_eq_of_covers 9 _ (by decide +kernel) fun t hf y => ?_
  obtain ⟨r, n, rfl⟩ : ∃ (r : Fin 2048) (n : Fin 22), y = ix2 r n := ⟨y 0, y 1, eq_ix2 y⟩
  have hi : ((cfg0.win 9).blk t).view.emb (ix2 r n) = (ix2 r n : S2048x22.Idx) := by
    blk_ext [index9]
  rw [hi]
  blk_simp
  rw [after0_9, left_hscale]
  refine (ref_hscale _ _ _ r n).trans ?_
  rw [iblk0_eq, iblk1_eq, iblk2_eq]
  rfl

/-! ## The run -/

/-- An argument that no window stages is as launched. -/
theorem kept_rest (r : PUnit × MemSt nD τ sig (Elt Ideal)) (h : Pipeline.FramePost cfgs (dats m) 0 (V m) r) :
    r.2.mem ((c : Thread nD τ).loc main_arg0) = m ((c : Thread nD τ).loc main_arg0)
    ∧ r.2.mem ((c : Thread nD τ).loc main_arg2) = m ((c : Thread nD τ).loc main_arg2)
    ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).2 main_arg2 (Pipeline.mem_restRefs_of main_arg2 (by decide) (by decide))).trans (V_main_arg2 m c),
    ((h c).2 main_arg4 (Pipeline.mem_restRefs_of main_arg4 (by decide) (by decide))).trans (V_main_arg4 m c)⟩

/-- An argument that a window stages is never written back. -/
theorem kept_staged (r : PUnit × MemSt nD τ sig (Elt Ideal)) (h : Pipeline.FramePost cfgs (dats m) 0 (V m) r) :
    r.2.mem ((c : Thread nD τ).loc main_arg1) = m ((c : Thread nD τ).loc main_arg1)
    ∧ r.2.mem ((c : Thread nD τ).loc main_arg3) = m ((c : Thread nD τ).loc main_arg3) :=
  ⟨((h c).1 1).trans (((dats m 0 c).arrAt_in 1 rfl _).trans ((A_eq m c 1).trans (V_main_arg1 m c))),
    ((h c).1 3).trans (((dats m 0 c).arrAt_in 3 rfl _).trans ((A_eq m c 3).trans (V_main_arg3 m c)))⟩

/-- The run with each result array named, and the arguments as launched. -/
theorem run_blocks : θ_run defs (onTc (τ := τ) (main (F := Ideal))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_v3_3) = (dats m 0 c).arrAt 8 cfg0.N
      ∧ r.2.mem ((c : Thread nD τ).loc main_v3_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8, (h c).1 9,
      (kept_rest m c r h).1, (kept_staged m c r h).1, (kept_rest m c r h).2.1, (kept_staged m c r h).2, (kept_rest m c r h).2.2⟩)
    (run_main m ρ)

end Cert.ReferenceIdeal.Value

end
-- ==== Proof.Algebraic.lean ====
module

public import proofs.«01_k».proof.Defs
public import proofs.«01_k».proof.Proof.Arrays
public import proofs.«01_k».proof.Proof.RefRun
public import proofs.«01_k».proof.Proof.Gen.KernelIdeal.Value
public import proofs.«01_k».proof.Proof.Gen.ReferenceIdeal
public import Idealize.ShloMosaic.Adequacy
public import Idealize.ShloMosaic.Init

@[expose] public section
noncomputable section

/-!
# The kernel's results are the reference's

Both sides' five arrays are the same specification of the arguments, and the arguments agree.
-/

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem argX_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.argX m' c = Cert.KernelIdeal.Block.argX m c := by
  unfold Cert.ReferenceIdeal.Value.argX Cert.KernelIdeal.Block.argX
  rw [h]

theorem argW_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.argW m' c = Cert.KernelIdeal.Block.argW m c := by
  unfold Cert.ReferenceIdeal.Value.argW Cert.KernelIdeal.Block.argW
  rw [h]

theorem argS_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.argS m' c = Cert.KernelIdeal.Block.argS m c := by
  unfold Cert.ReferenceIdeal.Value.argS Cert.KernelIdeal.Block.argS
  rw [h]

theorem argD_eq (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.argD m' c = Cert.KernelIdeal.Block.argD m c := by
  unfold Cert.ReferenceIdeal.Value.argD Cert.KernelIdeal.Block.argD
  rw [h]

theorem argE_eq (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.argE m' c = Cert.KernelIdeal.Block.argE m c := by
  unfold Cert.ReferenceIdeal.Value.argE Cert.KernelIdeal.Block.argE
  rw [h]

end

/-- From equal arguments the kernel and the reference leave equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, Cert.KernelIdeal.Value.run_blocks m g, ?_⟩
  refine (θ_run _ _ _).mono (fun r h c => ?_) (Cert.ReferenceIdeal.Value.run_blocks m' g')
  obtain ⟨h0, h1, h2, h3, h4⟩ := hargs c
  obtain ⟨r0, r1, r2, r3, r4, rest⟩ := h c
  refine ⟨r0.trans ?_, r1.trans ?_, r2.trans ?_, r3.trans ?_, r4.trans ?_, rest⟩
  · rw [Cert.ReferenceIdeal.Value.final_out, Cert.KernelIdeal.Block.final_out, argX_eq m m' c h0, argW_eq m m' c h1,
      argS_eq m m' c h2, argD_eq m m' c h3, argE_eq m m' c h4]
  · rw [Cert.ReferenceIdeal.Value.final_xcodes, Cert.KernelIdeal.Block.final_xcodes, argX_eq m m' c h0]
  · rw [Cert.ReferenceIdeal.Value.final_xscale, Cert.KernelIdeal.Block.final_xscale, argX_eq m m' c h0]
  · rw [Cert.ReferenceIdeal.Value.final_hcodes, Cert.KernelIdeal.Block.final_hcodes, argX_eq m m' c h0, argW_eq m m' c h1,
      argS_eq m m' c h2]
  · rw [Cert.ReferenceIdeal.Value.final_hscale, Cert.KernelIdeal.Block.final_hscale, argX_eq m m' c h0, argW_eq m m' c h1,
      argS_eq m m' c h2]

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem

/-- All the claims: the three frames, the idealised program's agreement with the program, and the equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
